-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_without_bias [hPre_finite_without_bias : Cert.Pre_finite_without_bias.Facts] (m : (ℓ : Loc Cert.KernelIdeal.nD Cert.KernelIdeal.τ Cert.KernelIdeal.sig) → Buf (Elt Ideal) ℓ) : Prop :=
  ∀ c : Dev Cert.KernelIdeal.nD,
    (Cert.Pre_finite_without_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_without_bias [hPre_finite_without_bias : Cert.Pre_finite_without_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_without_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_without_bias [hKernelIdeal : Cert.KernelIdeal.Facts] [hPre_finite_without_bias : Cert.Pre_finite_without_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_without_bias m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_without_bias [hReferenceIdeal : Cert.ReferenceIdeal.Facts] [hPre_finite_without_bias : Cert.Pre_finite_without_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_without_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "third" .f32 0x3EAAAAAB#32 ((1 / 3 : ℝ) : EReal)

def algebraic_KernelIdeal_ReferenceIdeal_pre_finite_without_bias [hKernelIdeal : Cert.KernelIdeal.Facts] [hReferenceIdeal : Cert.ReferenceIdeal.Facts] [hPre_finite_without_bias : Cert.Pre_finite_without_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_without_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v12) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_v107) = v3 c
          ∧ r.2.mem ((c.tc : Thread Cert.ReferenceIdeal.nD Cert.ReferenceIdeal.τ).loc Cert.ReferenceIdeal.main_v111) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_without_bias : Cert.Pre_finite_without_bias.Facts),
    quiescent_Kernel (hKernel := hKernel)
    ∧ quiescent_KernelIdeal (hKernelIdeal := hKernelIdeal)
    ∧ quiescent_KernelIdeal_pre_finite_without_bias (hKernelIdeal := hKernelIdeal) (hPre_finite_without_bias := hPre_finite_without_bias)
    ∧ quiescent_ReferenceIdeal (hReferenceIdeal := hReferenceIdeal)
    ∧ quiescent_ReferenceIdeal_pre_finite_without_bias (hReferenceIdeal := hReferenceIdeal) (hPre_finite_without_bias := hPre_finite_without_bias)
    ∧ preserves_Kernel_KernelIdeal
    ∧ algebraic_KernelIdeal_ReferenceIdeal_pre_finite_without_bias (hKernelIdeal := hKernelIdeal) (hReferenceIdeal := hReferenceIdeal) (hPre_finite_without_bias := hPre_finite_without_bias)
-- ==== Pre_finite_without_bias.lean ====
abbrev S16384x256 : Shape := ⟨2, ![16384, 256]⟩
abbrev S256x128 : Shape := ⟨2, ![256, 128]⟩
abbrev S128 : Shape := ⟨1, ![128]⟩
abbrev S128x1000 : Shape := ⟨2, ![128, 1000]⟩
abbrev S1000 : Shape := ⟨1, ![1000]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128x1000 : S_.BroadcastsInDim S128x1000 (![] : Fin 0 → Fin S128x1000.rank)
  reducesTo_S128x1000_S_d0_1 : S128x1000.ReducesTo [0, 1] S_
  bcast_S_S128 : S_.BroadcastsInDim S128 (![] : Fin 0 → Fin S128.rank)
  reducesTo_S128_S_d0 : S128.ReducesTo [0] S_
  bcast_S_S1000 : S_.BroadcastsInDim S1000 (![] : Fin 0 → Fin S1000.rank)
  reducesTo_S1000_S_d0 : S1000.ReducesTo [0] S_

variable [Facts]

def fn_part3 {F : FTy → Type} [FloatOps F] (main_arg10 : FVec F S128 .f32) (main_arg12 : FVec F S1000 .f32) (main_v49 : IVec S_ 1) : IVec S_ 1 :=
  let main_cst_20 : FVec F S_ .f32 := constant S_ .f32 0x00000000#32
  let main_v50 : FVec F S128 .f32 := broadcastInDim S128 ![] bcast_S_S128 main_cst_20
  let main_v51 : IVec S128 1 := cmpf .oeq main_arg10 main_v50
  let main_c_21 : IVec S_ 1 := constantI S_ 1 1#1
  let main_v52 : IVec S_ 1 := (fun x v => Host.reduce IntOp.andi x v reducesTo_S128_S_d0 h_S_) main_v51 main_c_21
  let main_v53 : IVec S_ 1 := andi main_v49 main_v52
  let main_cst_22 : FVec F S_ .f32 := constant S_ .f32 0x00000000#32
  let main_v54 : FVec F S1000 .f32 := broadcastInDim S1000 ![] bcast_S_S1000 main_cst_22
  let main_v55 : IVec S1000 1 := cmpf .oeq main_arg12 main_v54
  let main_c_23 : IVec S_ 1 := constantI S_ 1 1#1
  let main_v56 : IVec S_ 1 := (fun x v => Host.reduce IntOp.andi x v reducesTo_S1000_S_d0 h_S_) main_v55 main_c_23
  let main_v57 : IVec S_ 1 := andi main_v53 main_v56
  main_v57

def fn_part2 {F : FTy → Type} [FloatOps F] (main_arg2 : FVec F S128 .f32) (main_arg4 : FVec F S1000 .f32) (main_arg6 : FVec F S128 .f32) (main_arg8 : FVec F S1000 .f32) (main_arg10 : FVec F S128 .f32) (main_arg12 : FVec F S1000 .f32) (main_v33 : IVec S_ 1) : IVec S_ 1 :=
  let main_cst_12 : FVec F S_ .f32 := constant S_ .f32 0x00000000#32
  let main_v34 : FVec F S128 .f32 := broadcastInDim S128 ![] bcast_S_S128 main_cst_12
  let main_v35 : IVec S128 1 := cmpf .oeq main_arg2 main_v34
  let main_c_13 : IVec S_ 1 := constantI S_ 1 1#1
  let main_v36 : IVec S_ 1 := (fun x v => Host.reduce IntOp.andi x v reducesTo_S128_S_d0 h_S_) main_v35 main_c_13
  let main_v37 : IVec S_ 1 := andi main_v33 main_v36
  let main_cst_14 : FVec F S_ .f32 := constant S_ .f32 0x00000000#32
  let main_v38 : FVec F S1000 .f32 := broadcastInDim S1000 ![] bcast_S_S1000 main_cst_14
  let main_v39 : IVec S1000 1 := cmpf .oeq main_arg4 main_v38
  let main_c_15 : IVec S_ 1 := constantI S_ 1 1#1
  let main_v40 : IVec S_ 1 := (fun x v => Host.reduce IntOp.andi x v reducesTo_S1000_S_d0 h_S_) main_v39 main_c_15
  let main_v41 : IVec S_ 1 := andi main_v37 main_v40
  let main_cst_16 : FVec F S_ .f32 := constant S_ .f32 0x00000000#32
  let main_v42 : FVec F S128 .f32 := broadcastInDim S128 ![] bcast_S_S128 main_cst_16
  let main_v43 : IVec S128 1 := cmpf .oeq main_arg6 main_v42
  let main_c_17 : IVec S_ 1 := constantI S_ 1 1#1
  let main_v44 : IVec S_ 1 := (fun x v => Host.reduce IntOp.andi x v reducesTo_S128_S_d0 h_S_) main_v43 main_c_17
  let main_v45 : IVec S_ 1 := andi main_v41 main_v44
  let main_cst_18 : FVec F S_ .f32 := constant S_ .f32 0x00000000#32
  let main_v46 : FVec F S1000 .f32 := broadcastInDim S1000 ![] bcast_S_S1000 main_cst_18
  let main_v47 : IVec S1000 1 := cmpf .oeq main_arg8 main_v46
  let main_c_19 : IVec S_ 1 := constantI S_ 1 1#1
  let main_v48 : IVec S_ 1 := (fun x v => Host.reduce IntOp.andi x v reducesTo_S1000_S_d0 h_S_) main_v47 main_c_19
  let main_v49 : IVec S_ 1 := andi main_v45 main_v48
  fn_part3 (F := F) main_arg10 main_arg12 main_v49

def fn_part1 {F : FTy → Type} [FloatOps F] (main_arg2 : FVec F S128 .f32) (main_arg4 : FVec F S1000 .f32) (main_arg6 : FVec F S128 .f32) (main_arg7 : FVec F S128x1000 .f32) (main_arg8 : FVec F S1000 .f32) (main_arg9 : FVec F S256x128 .f32) (main_arg10 : FVec F S128 .f32) (main_arg11 : FVec F S128x1000 .f32) (main_arg12 : FVec F S1000 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x1000 .f32 := Host.absf main_arg7
  let main_cst_6 : FVec F S_ .f32 := constant S_ .f32 0x7F800000#32
  let main_v20 : FVec F S128x1000 .f32 := broadcastInDim S128x1000 ![] bcast_S_S128x1000 main_cst_6
  let main_v21 : IVec S128x1000 1 := cmpf .olt main_v19 main_v20
  let main_c_7 : IVec S_ 1 := constantI S_ 1 1#1
  let main_v22 : IVec S_ 1 := (fun x v => Host.reduce IntOp.andi x v reducesTo_S128x1000_S_d0_1 h_S_) main_v21 main_c_7
  let main_v23 : IVec S_ 1 := andi main_v18 main_v22
  let main_v24 : FVec F S256x128 .f32 := Host.absf main_arg9
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128x1000 .f32 := Host.absf main_arg11
  let main_cst_10 : FVec F S_ .f32 := constant S_ .f32 0x7F800000#32
  let main_v30 : FVec F S128x1000 .f32 := broadcastInDim S128x1000 ![] bcast_S_S128x1000 main_cst_10
  let main_v31 : IVec S128x1000 1 := cmpf .olt main_v29 main_v30
  let main_c_11 : IVec S_ 1 := constantI S_ 1 1#1
  let main_v32 : IVec S_ 1 := (fun x v => Host.reduce IntOp.andi x v reducesTo_S128x1000_S_d0_1 h_S_) main_v31 main_c_11
  let main_v33 : IVec S_ 1 := andi main_v28 main_v32
  fn_part2 (F := F) main_arg2 main_arg4 main_arg6 main_arg8 main_arg10 main_arg12 main_v33

def fn {F : FTy → Type} [FloatOps F] (main_arg0 : FVec F S16384x256 .f32) (main_arg1 : FVec F S256x128 .f32) (main_arg2 : FVec F S128 .f32) (main_arg3 : FVec F S128x1000 .f32) (main_arg4 : FVec F S1000 .f32) (main_arg5 : FVec F S256x128 .f32) (main_arg6 : FVec F S128 .f32) (main_arg7 : FVec F S128x1000 .f32) (main_arg8 : FVec F S1000 .f32) (main_arg9 : FVec F S256x128 .f32) (main_arg10 : FVec F S128 .f32) (main_arg11 : FVec F S128x1000 .f32) (main_arg12 : FVec F S1000 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128x1000 .f32 := Host.absf main_arg3
  let main_cst_2 : FVec F S_ .f32 := constant S_ .f32 0x7F800000#32
  let main_v10 : FVec F S128x1000 .f32 := broadcastInDim S128x1000 ![] bcast_S_S128x1000 main_cst_2
  let main_v11 : IVec S128x1000 1 := cmpf .olt main_v9 main_v10
  let main_c_3 : IVec S_ 1 := constantI S_ 1 1#1
  let main_v12 : IVec S_ 1 := (fun x v => Host.reduce IntOp.andi x v reducesTo_S128x1000_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg2 main_arg4 main_arg6 main_arg7 main_arg8 main_arg9 main_arg10 main_arg11 main_arg12 main_v13 main_v16
-- ==== Kernel.lean ====
abbrev S16384x256 : Shape := ⟨2, ![16384, 256]⟩
abbrev S256x128 : Shape := ⟨2, ![256, 128]⟩
abbrev S128 : Shape := ⟨1, ![128]⟩
abbrev S128x1000 : Shape := ⟨2, ![128, 1000]⟩
abbrev S1000 : Shape := ⟨1, ![1000]⟩
abbrev S256x384 : Shape := ⟨2, ![256, 384]⟩
abbrev S1000x128 : Shape := ⟨2, ![1000, 128]⟩
abbrev S1x1000x128 : Shape := ⟨3, ![1, 1000, 128]⟩
abbrev S3x1000x128 : Shape := ⟨3, ![3, 1000, 128]⟩
abbrev S3x16384x128 : Shape := ⟨3, ![3, 16384, 128]⟩
abbrev S3x1000x16384 : Shape := ⟨3, ![3, 1000, 16384]⟩
abbrev S1x16384 : Shape := ⟨2, ![1, 16384]⟩
abbrev S1000x16384 : Shape := ⟨2, ![1000, 16384]⟩
abbrev S256x256 : Shape := ⟨2, ![256, 256]⟩
abbrev S3x256x128 : Shape := ⟨3, ![3, 256, 128]⟩
abbrev S3x1000x256 : Shape := ⟨3, ![3, 1000, 256]⟩
abbrev S1x256 : Shape := ⟨2, ![1, 256]⟩
abbrev S1000x256 : Shape := ⟨2, ![1000, 256]⟩
abbrev S1x256x128 : Shape := ⟨3, ![1, 256, 128]⟩
abbrev S128x256 : Shape := ⟨2, ![128, 256]⟩
abbrev S256 : Shape := ⟨1, ![256]⟩
abbrev S1x1000x256 : Shape := ⟨3, ![1, 1000, 256]⟩
abbrev S16384x3x128 : Shape := ⟨3, ![16384, 3, 128]⟩
abbrev S16384x3x1000 : Shape := ⟨3, ![16384, 3, 1000]⟩
abbrev S16384x1000 : Shape := ⟨2, ![16384, 1000]⟩
abbrev S16384 : Shape := ⟨1, ![16384]⟩

abbrev nBuf : Space → Nat
  | .hbm => 31
  | .vmem => 14
  | .smem => 0
  | _ => 0

abbrev bufTy : (tb : Table) → Fin (tcTables nBuf tb) → BufTy
  | .hbm, ⟨0, _⟩ => ⟨S16384x256, .f32⟩
  | .hbm, ⟨1, _⟩ => ⟨S256x128, .f32⟩
  | .hbm, ⟨2, _⟩ => ⟨S128, .f32⟩
  | .hbm, ⟨3, _⟩ => ⟨S128x1000, .f32⟩
  | .hbm, ⟨4, _⟩ => ⟨S1000, .f32⟩
  | .hbm, ⟨5, _⟩ => ⟨S256x128, .f32⟩
  | .hbm, ⟨6, _⟩ => ⟨S128, .f32⟩
  | .hbm, ⟨7, _⟩ => ⟨S128x1000, .f32⟩
  | .hbm, ⟨8, _⟩ => ⟨S1000, .f32⟩
  | .hbm, ⟨9, _⟩ => ⟨S256x128, .f32⟩
  | .hbm, ⟨10, _⟩ => ⟨S128, .f32⟩
  | .hbm, ⟨11, _⟩ => ⟨S128x1000, .f32⟩
  | .hbm, ⟨12, _⟩ => ⟨S1000, .f32⟩
  | .hbm, ⟨13, _⟩ => ⟨S256x384, .f32⟩
  | .hbm, ⟨14, _⟩ => ⟨S1000x128, .f32⟩
  | .hbm, ⟨15, _⟩ => ⟨S1000x128, .f32⟩
  | .hbm, ⟨16, _⟩ => ⟨S1000x128, .f32⟩
  | .hbm, ⟨17, _⟩ => ⟨S1x1000x128, .f32⟩
  | .hbm, ⟨18, _⟩ => ⟨S1x1000x128, .f32⟩
  | .hbm, ⟨19, _⟩ => ⟨S1x1000x128, .f32⟩
  | .hbm, ⟨20, _⟩ => ⟨S3x1000x128, .f32⟩
  | .hbm, ⟨21, _⟩ => ⟨S3x16384x128, .f32⟩
  | .hbm, ⟨22, _⟩ => ⟨S3x1000x16384, .f32⟩
  | .hbm, ⟨23, _⟩ => ⟨S1x16384, .i32⟩
  | .hbm, ⟨24, _⟩ => ⟨S1000x16384, .f32⟩
  | .hbm, ⟨25, _⟩ => ⟨S1000x16384, .f32⟩
  | .hbm, ⟨26, _⟩ => ⟨S16384x3x128, .f32⟩
  | .hbm, ⟨27, _⟩ => ⟨S16384x3x1000, .f32⟩
  | .hbm, ⟨28, _⟩ => ⟨S16384x1000, .f32⟩
  | .hbm, ⟨29, _⟩ => ⟨S16384x1000, .f32⟩
  | .hbm, ⟨30, _⟩ => ⟨S16384, .i32⟩
  | .local _ .vmem, ⟨0, _⟩ => ⟨S256x256, .f32⟩
  | .local _ .vmem, ⟨1, _⟩ => ⟨S256x256, .f32⟩
  | .local _ .vmem, ⟨2, _⟩ => ⟨S256x384, .f32⟩
  | .local _ .vmem, ⟨3, _⟩ => ⟨S3x1000x128, .f32⟩
  | .local _ .vmem, ⟨4, _⟩ => ⟨S3x256x128, .f32⟩
  | .local _ .vmem, ⟨5, _⟩ => ⟨S3x256x128, .f32⟩
  | .local _ .vmem, ⟨6, _⟩ => ⟨S3x1000x256, .f32⟩
  | .local _ .vmem, ⟨7, _⟩ => ⟨S3x1000x256, .f32⟩
  | .local _ .vmem, ⟨8, _⟩ => ⟨S1x256, .i32⟩
  | .local _ .vmem, ⟨9, _⟩ => ⟨S1x256, .i32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | .local _ .vmem, ⟨13, _⟩ => ⟨S1000x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev main_v8_3 : Ref sig .tc := ⟨.hbm, 24, rfl⟩
abbrev main_v8_4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x1000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "log2e" => some (((Real.log 2)⁻¹ : ℝ) : EReal)
  | "third" => some ((1 / 3 : ℝ) : EReal)
  | _ => none
-- ==== ReferenceIdeal.lean ====
abbrev S16384x256 : Shape := ⟨2, ![16384, 256]⟩
abbrev S256x128 : Shape := ⟨2, ![256, 128]⟩
abbrev S128 : Shape := ⟨1, ![128]⟩
abbrev S128x1000 : Shape := ⟨2, ![128, 1000]⟩
abbrev S1000 : Shape := ⟨1, ![1000]⟩
abbrev S16384x128 : Shape := ⟨2, ![16384, 128]⟩
abbrev S1x128 : Shape := ⟨2, ![1, 128]⟩
abbrev S_ : Shape := ⟨0, ![]⟩
abbrev S16384x1000 : Shape := ⟨2, ![16384, 1000]⟩
abbrev S1x1000 : Shape := ⟨2, ![1, 1000]⟩
abbrev S16384 : Shape := ⟨1, ![16384]⟩
abbrev S16384x1 : Shape := ⟨2, ![16384, 1]⟩
abbrev S16384x1x128 : Shape := ⟨3, ![16384, 1, 128]⟩
abbrev S16384x3x128 : Shape := ⟨3, ![16384, 3, 128]⟩
abbrev S16384x1x1000 : Shape := ⟨3, ![16384, 1, 1000]⟩
abbrev S16384x3x1000 : Shape := ⟨3, ![16384, 3, 1000]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 198
  | .vmem => 0
  | .smem => 0
  | _ => 0

abbrev hbmTy0_0 (i : Nat) : BufTy := match i % 128 with
  | 0 => ⟨S16384x256, .f32⟩
  | 1 => ⟨S256x128, .f32⟩
  | 2 => ⟨S128, .f32⟩
  | 3 => ⟨S128x1000, .f32⟩
  | 4 => ⟨S1000, .f32⟩
  | 5 => ⟨S256x128, .f32⟩
  | 6 => ⟨S128, .f32⟩
  | 7 => ⟨S128x1000, .f32⟩
  | 8 => ⟨S1000, .f32⟩
  | 9 => ⟨S256x128, .f32⟩
  | 10 => ⟨S128, .f32⟩
  | 11 => ⟨S128x1000, .f32⟩
  | 12 => ⟨S1000, .f32⟩
  | 13 => ⟨S16384x128, .f32⟩
  | 14 => ⟨S1x128, .f32⟩
  | 15 => ⟨S16384x128, .f32⟩
  | 16 => ⟨S16384x128, .f32⟩
  | 17 => ⟨S_, .f32⟩
  | 18 => ⟨S16384x128, .f32⟩
  | 19 => ⟨S16384x128, .f32⟩
  | 20 => ⟨S16384x1000, .f32⟩
  | 21 => ⟨S1x1000, .f32⟩
  | 22 => ⟨S16384x1000, .f32⟩
  | 23 => ⟨S16384x1000, .f32⟩
  | 24 => ⟨S_, .f32⟩
  | 25 => ⟨S16384x1000, .f32⟩
  | 26 => ⟨S16384x1000, .f32⟩
  | 27 => ⟨S_, .f32⟩
  | 28 => ⟨S16384, .f32⟩
  | 29 => ⟨S_, .f32⟩
  | 30 => ⟨S16384, .f32⟩
  | 31 => ⟨S16384, .f32⟩
  | 32 => ⟨S16384x1, .f32⟩
  | 33 => ⟨S16384x1000, .f32⟩
  | 34 => ⟨S16384x1000, .f32⟩
  | 35 => ⟨S16384x1000, .f32⟩
  | 36 => ⟨S_, .f32⟩
  | 37 => ⟨S16384, .f32⟩
  | 38 => ⟨S16384x1, .f32⟩
  | 39 => ⟨S16384x1000, .f32⟩
  | 40 => ⟨S16384x1000, .f32⟩
  | 41 => ⟨S16384x128, .f32⟩
  | 42 => ⟨S1x128, .f32⟩
  | 43 => ⟨S16384x128, .f32⟩
  | 44 => ⟨S16384x128, .f32⟩
  | 45 => ⟨S_, .f32⟩
  | 46 => ⟨S16384x128, .f32⟩
  | 47 => ⟨S16384x128, .f32⟩
  | 48 => ⟨S16384x1000, .f32⟩
  | 49 => ⟨S1x1000, .f32⟩
  | 50 => ⟨S16384x1000, .f32⟩
  | 51 => ⟨S16384x1000, .f32⟩
  | 52 => ⟨S_, .f32⟩
  | 53 => ⟨S16384x1000, .f32⟩
  | 54 => ⟨S16384x1000, .f32⟩
  | 55 => ⟨S_, .f32⟩
  | 56 => ⟨S16384, .f32⟩
  | 57 => ⟨S_, .f32⟩
  | 58 => ⟨S16384, .f32⟩
  | 59 => ⟨S16384, .f32⟩
  | 60 => ⟨S16384x1, .f32⟩
  | 61 => ⟨S16384x1000, .f32⟩
  | 62 => ⟨S16384x1000, .f32⟩
  | 63 => ⟨S16384x1000, .f32⟩
  | 64 => ⟨S_, .f32⟩
  | 65 => ⟨S16384, .f32⟩
  | 66 => ⟨S16384x1, .f32⟩
  | 67 => ⟨S16384x1000, .f32⟩
  | 68 => ⟨S16384x1000, .f32⟩
  | 69 => ⟨S16384x128, .f32⟩
  | 70 => ⟨S1x128, .f32⟩
  | 71 => ⟨S16384x128, .f32⟩
  | 72 => ⟨S16384x128, .f32⟩
  | 73 => ⟨S_, .f32⟩
  | 74 => ⟨S16384x128, .f32⟩
  | 75 => ⟨S16384x128, .f32⟩
  | 76 => ⟨S16384x1000, .f32⟩
  | 77 => ⟨S1x1000, .f32⟩
  | 78 => ⟨S16384x1000, .f32⟩
  | 79 => ⟨S16384x1000, .f32⟩
  | 80 => ⟨S_, .f32⟩
  | 81 => ⟨S16384x1000, .f32⟩
  | 82 => ⟨S16384x1000, .f32⟩
  | 83 => ⟨S_, .f32⟩
  | 84 => ⟨S16384, .f32⟩
  | 85 => ⟨S_, .f32⟩
  | 86 => ⟨S16384, .f32⟩
  | 87 => ⟨S16384, .f32⟩
  | 88 => ⟨S16384x1, .f32⟩
  | 89 => ⟨S16384x1000, .f32⟩
  | 90 => ⟨S16384x1000, .f32⟩
  | 91 => ⟨S16384x1000, .f32⟩
  | 92 => ⟨S_, .f32⟩
  | 93 => ⟨S16384, .f32⟩
  | 94 => ⟨S16384x1, .f32⟩
  | 95 => ⟨S16384x1000, .f32⟩
  | 96 => ⟨S16384x1000, .f32⟩
  | 97 => ⟨S16384x1x128, .f32⟩
  | 98 => ⟨S16384x1x128, .f32⟩
  | 99 => ⟨S16384x1x128, .f32⟩
  | 100 => ⟨S16384x3x128, .f32⟩
  | 101 => ⟨S16384x1x1000, .f32⟩
  | 102 => ⟨S16384x1x1000, .f32⟩
  | 103 => ⟨S16384x1x1000, .f32⟩
  | 104 => ⟨S16384x3x1000, .f32⟩
  | 105 => ⟨S16384x1000, .i32⟩
  | 106 => ⟨S_, .f32⟩
  | 107 => ⟨S_, .i32⟩
  | 108 => ⟨S16384, .f32⟩
  | 109 => ⟨S16384, .i32⟩
  | 110 => ⟨S16384x1000, .i32⟩
  | 111 => ⟨S_, .f32⟩
  | 112 => ⟨S_, .i32⟩
  | 113 => ⟨S16384, .f32⟩
  | 114 => ⟨S16384, .i32⟩
  | 115 => ⟨S16384x1000, .i32⟩
  | 116 => ⟨S_, .f32⟩
  | 117 => ⟨S_, .i32⟩
  | 118 => ⟨S16384, .f32⟩
  | 119 => ⟨S16384, .i32⟩
  | 120 => ⟨S16384x1, .i32⟩
  | 121 => ⟨S1x1000, .i32⟩
  | 122 => ⟨S16384x1000, .i32⟩
  | 123 => ⟨S16384x1000, .i32⟩
  | 124 => ⟨S16384x1000, .i1⟩
  | 125 => ⟨S16384x1000, .i32⟩
  | 126 => ⟨S16384x1, .i32⟩
  | 127 => ⟨S1x1000, .i32⟩
  | _ => ⟨S16384x256, .f32⟩

abbrev hbmTy0_1 (i : Nat) : BufTy := match i % 128 with
  | 0 => ⟨S16384x1000, .i32⟩
  | 1 => ⟨S16384x1000, .i32⟩
  | 2 => ⟨S16384x1000, .i1⟩
  | 3 => ⟨S16384x1000, .i32⟩
  | 4 => ⟨S16384x1000, .i32⟩
  | 5 => ⟨S16384x1, .i32⟩
  | 6 => ⟨S1x1000, .i32⟩
  | 7 => ⟨S16384x1000, .i32⟩
  | 8 => ⟨S16384x1000, .i32⟩
  | 9 => ⟨S16384x1000, .i1⟩
  | 10 => ⟨S16384x1000, .i32⟩
  | 11 => ⟨S16384x1000, .i32⟩
  | 12 => ⟨S16384x1000, .i32⟩
  | 13 => ⟨S_, .i32⟩
  | 14 => ⟨S_, .i32⟩
  | 15 => ⟨S16384, .i32⟩
  | 16 => ⟨S16384, .i32⟩
  | 17 => ⟨S16384x1, .i32⟩
  | 18 => ⟨S_, .i32⟩
  | 19 => ⟨S16384x1, .i32⟩
  | 20 => ⟨S16384x1, .i1⟩
  | 21 => ⟨S_, .i32⟩
  | 22 => ⟨S16384x1, .i32⟩
  | 23 => ⟨S16384x1, .i32⟩
  | 24 => ⟨S16384x1, .i32⟩
  | 25 => ⟨S16384x1x1, .i32⟩
  | 26 => ⟨S1, .i32⟩
  | 27 => ⟨S_, .i32⟩
  | 28 => ⟨S16384x1x1, .i32⟩
  | 29 => ⟨S16384x1x1, .i1⟩
  | 30 => ⟨S1x1x1, .i32⟩
  | 31 => ⟨S16384x1x1, .i32⟩
  | 32 => ⟨S16384x1x1, .i1⟩
  | 33 => ⟨S16384x1x1, .i1⟩
  | 34 => ⟨S_, .i1⟩
  | 35 => ⟨S16384x1, .i1⟩
  | 36 => ⟨S16384x1, .i32⟩
  | 37 => ⟨S_, .i32⟩
  | 38 => ⟨S16384x1, .i32⟩
  | 39 => ⟨S16384x1, .i32⟩
  | 40 => ⟨S16384, .i32⟩
  | 41 => ⟨S_, .i32⟩
  | 42 => ⟨S16384, .i32⟩
  | 43 => ⟨S16384, .i1⟩
  | 44 => ⟨S16384, .i32⟩
  | 45 => ⟨S16384, .i1⟩
  | 46 => ⟨S16384x1, .i1⟩
  | 47 => ⟨S_, .f32⟩
  | 48 => ⟨S16384x1000, .f32⟩
  | 49 => ⟨S16384x1000, .i1⟩
  | 50 => ⟨S16384x1000, .f32⟩
  | 51 => ⟨S16384, .i1⟩
  | 52 => ⟨S16384x1, .i1⟩
  | 53 => ⟨S16384x1000, .f32⟩
  | 54 => ⟨S16384x1000, .i1⟩
  | 55 => ⟨S16384x1000, .f32⟩
  | 56 => ⟨S16384, .i1⟩
  | 57 => ⟨S16384x1, .i1⟩
  | 58 => ⟨S16384x1000, .f32⟩
  | 59 => ⟨S16384x1000, .i1⟩
  | 60 => ⟨S16384x1000, .f32⟩
  | 61 => ⟨S16384x1, .i32⟩
  | 62 => ⟨S16384x1, .f32⟩
  | 63 => ⟨S16384x1000, .f32⟩
  | 64 => ⟨S16384x1000, .f32⟩
  | 65 => ⟨S16384x1000, .f32⟩
  | 66 => ⟨S16384x1000, .f32⟩
  | 67 => ⟨S_, .f32⟩
  | 68 => ⟨S16384x1000, .f32⟩
  | 69 => ⟨S16384x1000, .f32⟩
  | _ => ⟨S16384x256, .f32⟩

abbrev hbmTy (i : Nat) : BufTy := match i / 128 with
  | 0 => hbmTy0_0 i
  | 1 => hbmTy0_1 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_10 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_13 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_call0_v0 : Ref sig .tc := ⟨.hbm, 105, rfl⟩
abbrev main_call0_cst : Ref sig .tc := ⟨.hbm, 106, rfl⟩
abbrev main_call0_c : Ref sig .tc := ⟨.hbm, 107, rfl⟩
abbrev main_call0_v1_0 : Ref sig .tc := ⟨.hbm, 108, rfl⟩
abbrev main_v77 : Ref sig .tc := ⟨.hbm, 109, rfl⟩
abbrev main_call1_v0 : Ref sig .tc := ⟨.hbm, 110, rfl⟩
abbrev main_call1_cst : Ref sig .tc := ⟨.hbm, 111, rfl⟩
abbrev main_call1_c : Ref sig .tc := ⟨.hbm, 112, rfl⟩
abbrev main_call1_v1_0 : Ref sig .tc := ⟨.hbm, 113, rfl⟩
abbrev main_v78 : Ref sig .tc := ⟨.hbm, 114, rfl⟩
abbrev main_call2_v0 : Ref sig .tc := ⟨.hbm, 115, rfl⟩
abbrev main_call2_cst : Ref sig .tc := ⟨.hbm, 116, rfl⟩
abbrev main_call2_c : Ref sig .tc := ⟨.hbm, 117, rfl⟩
abbrev main_call2_v1_0 : Ref sig .tc := ⟨.hbm, 118, rfl⟩
abbrev main_v79 : Ref sig .tc := ⟨.hbm, 119, rfl⟩
abbrev main_call3_v0 : Ref sig .tc := ⟨.hbm, 120, rfl⟩
abbrev main_call3_v1 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_v80 : Ref sig .tc := ⟨.hbm, 125, rfl⟩
abbrev main_call4_v0 : Ref sig .tc := ⟨.hbm, 126, rfl⟩
abbrev main_call4_v1 : Ref sig .tc := ⟨.hbm, 127, rfl⟩
abbrev main_call4_v2 : Ref sig .tc := ⟨.hbm, 128, rfl⟩
abbrev main_call4_v3 : Ref sig .tc := ⟨.hbm, 129, rfl⟩
abbrev main_call4_v4 : Ref sig .tc := ⟨.hbm, 130, rfl⟩
abbrev main_v81 : Ref sig .tc := ⟨.hbm, 131, rfl⟩
abbrev main_v82 : Ref sig .tc := ⟨.hbm, 132, rfl⟩
abbrev main_call5_v0 : Ref sig .tc := ⟨.hbm, 133, rfl⟩
abbrev main_call5_v1 : Ref sig .tc := ⟨.hbm, 134, rfl⟩
abbrev main_call5_v2 : Ref sig .tc := ⟨.hbm, 135, rfl⟩
abbrev main_call5_v3 : Ref sig .tc := ⟨.hbm, 136, rfl⟩
abbrev main_call5_v4 : Ref sig .tc := ⟨.hbm, 137, rfl⟩
abbrev main_v83 : Ref sig .tc := ⟨.hbm, 138, rfl⟩
abbrev main_v84 : Ref sig .tc := ⟨.hbm, 139, rfl⟩
abbrev main_call6_v0 : Ref sig .tc := ⟨.hbm, 140, rfl⟩
abbrev main_call6_c : Ref sig .tc := ⟨.hbm, 141, rfl⟩
abbrev main_call6_c_0 : Ref sig .tc := ⟨.hbm, 142, rfl⟩
abbrev main_call6_v1_0 : Ref sig .tc := ⟨.hbm, 143, rfl⟩
abbrev main_v85 : Ref sig .tc := ⟨.hbm, 144, rfl⟩
abbrev main_v86 : Ref sig .tc := ⟨.hbm, 145, rfl⟩
abbrev main_call7_c : Ref sig .tc := ⟨.hbm, 146, rfl⟩
abbrev main_call7_v0 : Ref sig .tc := ⟨.hbm, 147, rfl⟩
abbrev main_call7_v1 : Ref sig .tc := ⟨.hbm, 148, rfl⟩
abbrev main_call7_c_0 : Ref sig .tc := ⟨.hbm, 149, rfl⟩
abbrev main_call7_v2 : Ref sig .tc := ⟨.hbm, 150, rfl⟩
abbrev main_call7_v3 : Ref sig .tc := ⟨.hbm, 151, rfl⟩
abbrev main_call7_v4 : Ref sig .tc := ⟨.hbm, 152, rfl⟩
abbrev main_call7_v5 : Ref sig .tc := ⟨.hbm, 153, rfl⟩
abbrev main_call7_c_1 : Ref sig .tc := ⟨.hbm, 154, rfl⟩
abbrev main_call7_c_2 : Ref sig .tc := ⟨.hbm, 155, rfl⟩
abbrev main_call7_v6 : Ref sig .tc := ⟨.hbm, 156, rfl⟩
abbrev main_call7_v7 : Ref sig .tc := ⟨.hbm, 157, rfl⟩
abbrev main_call7_v8 : Ref sig .tc := ⟨.hbm, 158, rfl⟩
abbrev main_call7_v9 : Ref sig .tc := ⟨.hbm, 159, rfl⟩
abbrev main_call7_v10 : Ref sig .tc := ⟨.hbm, 160, rfl⟩
abbrev main_call7_v11 : Ref sig .tc := ⟨.hbm, 161, rfl⟩
abbrev main_call7_c_3 : Ref sig .tc := ⟨.hbm, 162, rfl⟩
abbrev main_call7_v12 : Ref sig .tc := ⟨.hbm, 163, rfl⟩
abbrev main_call7_v13 : Ref sig .tc := ⟨.hbm, 164, rfl⟩
abbrev main_call7_c_4 : Ref sig .tc := ⟨.hbm, 165, rfl⟩
abbrev main_call7_v14 : Ref sig .tc := ⟨.hbm, 166, rfl⟩
abbrev main_v87 : Ref sig .tc := ⟨.hbm, 167, rfl⟩
abbrev main_v88 : Ref sig .tc := ⟨.hbm, 168, rfl⟩
abbrev main_c : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_cst_14 : Ref sig .tc := ⟨.hbm, 175, rfl⟩
abbrev main_v94 : Ref sig .tc := ⟨.hbm, 176, rfl⟩
abbrev main_call9_v0 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_call10_v0 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_call11_v0 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_cst_15 : Ref sig .tc := ⟨.hbm, 195, rfl⟩
abbrev main_v110 : Ref sig .tc := ⟨.hbm, 196, rfl⟩
abbrev main_v111 : Ref sig .tc := ⟨.hbm, 197, rfl⟩

abbrev nD : Nat := 1
abbrev τ : Topo := Topo.v7x

variable {F : FTy → Type} [FloatOps F]
-- ==== Proof.Hand.Axis.lean ====
module

public import Idealize.ShloMosaic.Lib.Pointwise
public import Idealize.ShloMosaic.PureOps.Ideal.Laws
public import Idealize.ShloMosaic.Lib.StableHlo.Predicate

/-! Reductions along one axis of a matrix of any size, read at an index. -/

@[expose] public section

noncomputable section

namespace Cert.Axis

open Idealize.ShloMosaic

variable {n m : Nat} {α β : Type} {u : Shape}

/-- A matrix reduced along its columns has one entry per row. -/
theorem reduces_last : (⟨2, ![n, m]⟩ : Shape).ReducesTo [1] ⟨1, ![n]⟩ → (⟨2, ![n, m]⟩ : Shape).Reduces [1] ⟨1, ![n]⟩ :=
  fun h => ⟨h.1, Nat.one_pos, h.2⟩

/-- The index of row `r` with the column `k` put back. -/
theorem lift_last (h : (⟨2, ![n, m]⟩ : Shape).Reduces [1] ⟨1, ![n]⟩) (r : Fin n) (k : Fin m) :
    h.lift (ix1 r) k = ix2 r k := by
  funext b
  match b with
  | ⟨0, _⟩ => rfl
  | ⟨1, _⟩ => rfl

/-- The index of column `r` with the row `k` put back. -/
theorem lift_first (h : (⟨2, ![m, n]⟩ : Shape).Reduces [0] ⟨1, ![n]⟩) (r : Fin n) (k : Fin m) :
    h.lift (ix1 r) k = ix2 k r := by
  funext b
  match b with
  | ⟨0, _⟩ => rfl
  | ⟨1, _⟩ => rfl

/-- A host reduction along the rows' columns, at a row, is the fold over that row's entries. -/
theorem hostReduce_last (f : α → α → α) [Std.Commutative f] [Std.Associative f] (x : (⟨2, ![n, m]⟩ : Shape).Idx → α)
    (init : u.Idx → α) (h : (⟨2, ![n, m]⟩ : Shape).ReducesTo [1] ⟨1, ![n]⟩) (hu : 0 < u.numel) (r : Fin n) :
    Host.reduce f x init h hu (ix1 r)
      = (Finset.univ : Finset (Fin m)).fold f (init (Shape.Idx.first hu)) fun k => x (ix2 r k) := by
  rw [Host.reduce_eq_fold, h.drop_eq_drop (reduces_last h), (reduces_last h).fold_filter_drop_single]
  exact congrArg (fun g => Finset.fold f _ g Finset.univ) (funext fun k => congrArg x (lift_last _ r k))

/-- A host sum along the rows' columns, at a row, is the sum of that row's entries. -/
theorem hostReduceAdd_last (x : FVec Ideal ⟨2, ![n, m]⟩ .f32) (init : u.Idx → EReal)
    (h : (⟨2, ![n, m]⟩ : Shape).ReducesTo [1] ⟨1, ![n]⟩) (hu : 0 < u.numel) (r : Fin n) :
    Host.reduceAdd x init h hu (ix1 r) = init (Shape.Idx.first hu) + ∑ k : Fin m, x (ix2 r k) := by
  refine (Ideal.hostReduceAdd_single h (reduces_last h) x _ (ix1 r)).trans ?_
  exact congrArg (_ + ·) (Finset.sum_congr rfl fun k _ => congrArg x (lift_last _ r k))

/-- The pairs a two-operand reduction along the columns folds over at row `r` are that row's. -/
theorem mem_fiber (x : (⟨2, ![n, m]⟩ : Shape).Idx → α) (y : (⟨2, ![n, m]⟩ : Shape).Idx → β)
    (h : (⟨2, ![n, m]⟩ : Shape).ReducesTo [1] ⟨1, ![n]⟩) (r : Fin n) (p : α × β) :
    p ∈ Host.argReduceFiber x y h (ix1 r) ↔ ∃ k : Fin m, p = (x (ix2 r k), y (ix2 r k)) := by
  have hd : ∀ i : (⟨2, ![n, m]⟩ : Shape).Idx, h.drop i = ix1 r ↔ i 0 = r := fun i => by
    rw [h.drop_eq_drop (reduces_last h)]
    constructor
    · intro e
      have := congrFun e 0
      exact this
    · intro e
      funext b
      match b with
      | ⟨0, _⟩ => exact e
  simp only [Host.argReduceFiber, List.mem_map, List.mem_filter, List.mem_finRange, true_and, decide_eq_true_eq, hd]
  constructor
  · rintro ⟨i, hi, rfl⟩
    refine ⟨(⟨2, ![n, m]⟩ : Shape).rowMajor.symm i 1, ?_⟩
    have e : (⟨2, ![n, m]⟩ : Shape).rowMajor.symm i = ix2 r ((⟨2, ![n, m]⟩ : Shape).rowMajor.symm i 1) :=
      (eq_ix2 _).trans (congrArg (fun a => ix2 a ((⟨2, ![n, m]⟩ : Shape).rowMajor.symm i 1)) hi)
    exact congrArg (fun i => (x i, y i)) e
  · rintro ⟨k, rfl⟩
    exact ⟨(⟨2, ![n, m]⟩ : Shape).rowMajor (ix2 r k), by rw [Equiv.symm_apply_apply]; rfl, by rw [Equiv.symm_apply_apply]⟩

/-- A kernel's maximum down the columns, at a column. -/
theorem max_first (x : FVec Ideal ⟨2, ![m, n]⟩ .f32) (acc : BitVec 32) (h : (⟨2, ![m, n]⟩ : Shape).Reduces [0] ⟨1, ![n]⟩)
    (hφ : FKind.Formats .f32) (hacc : acc = FKind.maximumf.neutral .f32 hφ) (r : Fin n) :
    multiReduction .maximumf [0] ⟨1, ![n]⟩ x acc h hφ hacc (ix1 r)
      = (Finset.univ : Finset (Fin m)).fold max (Ideal.ofBits .f32 acc) fun k => x (ix2 k r) := by
  rw [Ideal.multiReduction_maximumf_single]
  exact congrArg (fun g => Finset.fold max _ g Finset.univ) (funext fun k => congrArg x (lift_first _ r k))

/-- A kernel's minimum down the columns, at a column. -/
theorem min_first (x : FVec Ideal ⟨2, ![m, n]⟩ .f32) (acc : BitVec 32) (h : (⟨2, ![m, n]⟩ : Shape).Reduces [0] ⟨1, ![n]⟩)
    (hφ : FKind.Formats .f32) (hacc : acc = FKind.minimumf.neutral .f32 hφ) (r : Fin n) :
    multiReduction .minimumf [0] ⟨1, ![n]⟩ x acc h hφ hacc (ix1 r)
      = (Finset.univ : Finset (Fin m)).fold min (Ideal.ofBits .f32 acc) fun k => x (ix2 k r) := by
  rw [multiReduction_minimumf_eq_fold]
  refine (h.fold_filter_drop_single _ _ x (ix1 r)).trans ?_
  exact congrArg (fun g => Finset.fold min _ g Finset.univ) (funext fun k => congrArg x (lift_first _ r k))

/-- A kernel's sum down the columns, at a column. -/
theorem sum_first (x : FVec Ideal ⟨2, ![m, n]⟩ .f32) (acc : BitVec 32) (h : (⟨2, ![m, n]⟩ : Shape).Reduces [0] ⟨1, ![n]⟩)
    (hφ : FKind.Formats .f32) (hacc : acc = FKind.add.neutral .f32 hφ) (r : Fin n) :
    multiReduction .add [0] ⟨1, ![n]⟩ x acc h hφ hacc (ix1 r) = ∑ k : Fin m, x (ix2 k r) := by
  rw [Ideal.multiReduction_add_single]
  exact Finset.sum_congr rfl fun k _ => congrArg x (lift_first _ r k)

/-- The pattern of minus infinity. -/
theorem ofBits_bot : Ideal.ofBits .f32 0xFF800000#32 = ⊥ := by simp [Ideal.ofBits, Ideal.ieee]

/-- The pattern of plus infinity. -/
theorem ofBits_top : Ideal.ofBits .f32 0x7F800000#32 = ⊤ := by simp [Ideal.ofBits, Ideal.ieee]

end Cert.Axis
end
-- ==== Proof.Hand.Row.lean ====
module

public import Idealize.ShloMosaic.PureOps.Ideal.Laws
public import Idealize.ShloMosaic.Lib.Pointwise
public import Idealize.ShloMosaic.Lib.StableHlo.Predicate

/-! One row of real logits: its first largest entry, its softmax, and the vote of three classes. -/

@[expose] public section

noncomputable section

namespace Cert.Row

open Idealize.ShloMosaic

/-- `k` is the first position at which `v` is largest. -/
def IsTop {n : Nat} {α : Type} [LinearOrder α] (v : Fin n → α) (k : Fin n) : Prop :=
  ∀ j, v j < v k ∨ (v j = v k ∧ k ≤ j)

/-- A row has one first largest position at most. -/
theorem isTop_unique {n : Nat} {α : Type} [LinearOrder α] {v : Fin n → α} {k l : Fin n} (hk : IsTop v k) (hl : IsTop v l) :
    k = l := by
  rcases hk l with h | ⟨h, h'⟩
  · rcases hl k with g | ⟨g, _⟩
    · exact absurd h (not_lt_of_gt g)
    · exact absurd g (ne_of_gt h)
  · rcases hl k with g | ⟨_, g'⟩
    · exact absurd h (ne_of_gt g)
    · exact le_antisymm h' g'

/-- A row that is not empty has a first largest position. -/
theorem exists_isTop {n : Nat} {α : Type} [LinearOrder α] (v : Fin (n + 1) → α) : ∃ k, IsTop v k := by
  obtain ⟨m, -, hm⟩ := Finset.exists_max_image Finset.univ v ⟨0, Finset.mem_univ _⟩
  have hne : (Finset.univ.filter fun j => v j = v m).Nonempty := ⟨m, by simp⟩
  refine ⟨(Finset.univ.filter fun j => v j = v m).min' hne, fun j => ?_⟩
  have hmem := Finset.min'_mem _ hne
  have hv := (Finset.mem_filter.1 hmem).2
  rcases lt_or_eq_of_le (hm j (Finset.mem_univ j)) with h | h
  · exact .inl (lt_of_lt_of_eq h hv.symm)
  · exact .inr ⟨h.trans hv.symm, Finset.min'_le _ _ (by simp [h])⟩

/-- The first position at which a row is largest. -/
def top {n : Nat} {α : Type} [LinearOrder α] (v : Fin (n + 1) → α) : Fin (n + 1) := (exists_isTop v).choose

/-- The first largest position is one. -/
theorem top_spec {n : Nat} {α : Type} [LinearOrder α] (v : Fin (n + 1) → α) : IsTop v (top v) := (exists_isTop v).choose_spec

/-- No entry is above the one at the first largest position. -/
theorem le_at_top {n : Nat} {α : Type} [LinearOrder α] (v : Fin (n + 1) → α) (j : Fin (n + 1)) : v j ≤ v (top v) := by
  rcases top_spec v j with h | ⟨h, _⟩
  · exact h.le
  · exact h.le

/-- A row's maximum, started at minus infinity, is its entry at its first largest position. -/
theorem fold_max {n : Nat} (g : Fin (n + 1) → ℝ) :
    (Finset.univ : Finset (Fin (n + 1))).fold max (⊥ : EReal) (fun j => (g j : EReal)) = (g (top g) : EReal) := by
  apply le_antisymm
  · exact Finset.fold_max_le _ |>.2 ⟨bot_le, fun j _ => EReal.coe_le_coe_iff.2 (le_at_top g j)⟩
  · exact Finset.le_fold_max _ |>.2 (.inr ⟨top g, Finset.mem_univ _, le_rfl⟩)

/-- The smallest position at which a row equals its maximum is its first largest position; 1000 stands for a position
    at which it does not. -/
theorem fold_min (g : Fin 1000 → ℝ) :
    (Finset.univ : Finset (Fin 1000)).fold min (⊤ : EReal)
        (fun j => if (g j : EReal) = (g (top (n := 999) g) : EReal) then (((j.val : ℝ)) : EReal) else ((1000 : ℝ) : EReal))
      = (((top (n := 999) g).val : ℝ) : EReal) := by
  apply le_antisymm
  · refine Finset.fold_min_le _ |>.2 (.inr ⟨top (n := 999) g, Finset.mem_univ _, ?_⟩)
    simp
  · refine Finset.le_fold_min _ |>.2 ⟨le_top, fun j _ => ?_⟩
    split
    · rename_i h
      rcases top_spec (n := 999) g j with h' | ⟨_, h'⟩
      · exact absurd (EReal.coe_eq_coe_iff.1 h) (ne_of_lt h')
      · exact EReal.coe_le_coe_iff.2 (by exact_mod_cast h')
    · exact EReal.coe_le_coe_iff.2 (by exact_mod_cast (top (n := 999) g).isLt.le)

/-- The softmax of a row. -/
def soft {n : Nat} (g : Fin (n + 1) → ℝ) (j : Fin (n + 1)) : ℝ :=
  Real.exp (g j - g (top g)) / ∑ i, Real.exp (g i - g (top g))

/-- The sum of a row's exponentials is positive. -/
theorem sum_pos {n : Nat} (g : Fin (n + 1) → ℝ) : 0 < ∑ i, Real.exp (g i - g (top g)) :=
  Finset.sum_pos (fun i _ => Real.exp_pos _) ⟨0, Finset.mem_univ _⟩

/-- The softmax is largest first where the row is. -/
theorem top_soft {n : Nat} (g : Fin (n + 1) → ℝ) : top (soft g) = top g := by
  refine isTop_unique (top_spec _) fun j => ?_
  rcases top_spec g j with h | ⟨h, h'⟩
  · left
    exact div_lt_div_of_pos_right (Real.exp_lt_exp.2 (by linarith)) (sum_pos g)
  · right
    exact ⟨by simp only [soft, h], h'⟩

/-- A real sum, as an extended real. -/
theorem coe_sum {n : Nat} (f : Fin n → ℝ) : (∑ i, (f i : EReal)) = ((∑ i, f i : ℝ) : EReal) := by
  induction (Finset.univ : Finset (Fin n)) using Finset.induction_on with
  | empty => simp
  | insert a s ha ih => rw [Finset.sum_insert ha, Finset.sum_insert ha, ih, EReal.coe_add]

/-- The power of two of a logit difference scaled by the binary logarithm of e is its exponential. -/
theorem exp2_scaled (a b : ℝ) :
    Ideal.exp2 ((a : EReal) * (((Real.log 2)⁻¹ : ℝ) : EReal) - (b : EReal) * (((Real.log 2)⁻¹ : ℝ) : EReal))
      = ((Real.exp (a - b) : ℝ) : EReal) := by
  rw [← EReal.coe_mul, ← EReal.coe_mul, ← EReal.coe_sub, Ideal.exp2_coe]
  congr 1
  have h2 : Real.log 2 ≠ 0 := (Real.log_pos one_lt_two).ne'
  show (2 : ℝ) ^ (a * (Real.log 2)⁻¹ - b * (Real.log 2)⁻¹) = _
  rw [Real.rpow_def_of_pos two_pos]
  congr 1
  field_simp

/-- The kernel's probability: the exponential times the reciprocal of their sum. -/
theorem soft_mul {n : Nat} (g : Fin (n + 1) → ℝ) (j : Fin (n + 1)) :
    ((Real.exp (g j - g (top g)) : ℝ) : EReal)
        * Ideal.div ((1 : ℝ) : EReal) (∑ i, ((Real.exp (g i - g (top g)) : ℝ) : EReal)) = ((soft g j : ℝ) : EReal) := by
  rw [coe_sum, Ideal.div_coe (sum_pos g).ne', ← EReal.coe_mul, ← EReal.coe_mul, soft]
  congr 1
  ring

/-- The reference's probability: the exponential over their sum. -/
theorem soft_div {n : Nat} (g : Fin (n + 1) → ℝ) (j : Fin (n + 1)) :
    Ideal.div ((Real.exp (g j - g (top g)) : ℝ) : EReal) (∑ i, ((Real.exp (g i - g (top g)) : ℝ) : EReal))
      = ((soft g j : ℝ) : EReal) := by
  rw [coe_sum, Ideal.div_coe (sum_pos g).ne', ← EReal.coe_mul, soft]
  congr 1
  ring

/-! ## The vote -/

/-- How many of three classes are `j`. -/
def count {n : Nat} (a b c j : Fin n) : Nat := (if a = j then 1 else 0) + (if b = j then 1 else 0) + (if c = j then 1 else 0)

/-- The vote of three classes: the class of two at least, the third otherwise. -/
def vote {n : Nat} (a b c : Fin n) : Fin n := if a = b ∨ a = c then a else if b = c then b else c

/-- A class named as often as the vote, or the vote where it is named twice. -/
theorem count_top {n : Nat} (a b c : Fin (n + 1)) :
    (if count a b c (top (count a b c)) < 2 then c else top (count a b c)) = vote a b c
      ∧ count a b c (top (count a b c)) = count a b c (vote a b c) := by
  have h := top_spec (count a b c)
  generalize top (count a b c) = k at h ⊢
  have ha := h a
  have hb := h b
  have hc := h c
  unfold vote
  by_cases hab : a = b <;> by_cases hac : a = c <;> by_cases hbc : b = c <;> by_cases hak : a = k <;>
    by_cases hbk : b = k <;> by_cases hck : c = k <;> simp_all [count]
  · exfalso
    obtain ⟨e, -⟩ := ha
    split_ifs at e <;> omega

/-- The vote is one of the three classes. -/
theorem count_vote_pos {n : Nat} (a b c : Fin n) : 0 < count a b c (vote a b c) := by
  unfold vote count
  by_cases hab : a = b <;> by_cases hac : a = c <;> by_cases hbc : b = c <;> simp_all

/-- The vote names a class below the number of classes, so a word tells two classes apart. -/
theorem ofNat_inj (a b : Fin 1000) : BitVec.ofNat 32 a.val = BitVec.ofNat 32 b.val ↔ a = b := by
  constructor
  · intro h
    have := congrArg BitVec.toNat h
    simp only [BitVec.toNat_ofNat] at this
    have ha := a.isLt
    have hb := b.isLt
    rw [Nat.mod_eq_of_lt (by omega), Nat.mod_eq_of_lt (by omega)] at this
    exact Fin.ext this
  · rintro rfl
    rfl

/-- Comparing two classes' words for equality. -/
theorem cmpi_class (a b : Fin 1000) :
    IntOp.cmpi .eq (BitVec.ofNat 32 a.val) (BitVec.ofNat 32 b.val) = BitVec.ofBool (decide (a = b)) := by
  by_cases h : a = b
  · subst h
    simp [IntOp.cmpi]
  · have h' := fun e => h ((ofNat_inj a b).1 e)
    simp [IntOp.cmpi, h, beq_false_of_ne h']

/-- Choosing by a decided bit. -/
theorem select_ofBool {α : Type} (p : Bool) (x y : α) : Scalar.select (BitVec.ofBool p) x y = if p then x else y := by
  cases p <;> simp [Scalar.select]

/-- The kernel's chain of comparisons chooses the vote. -/
theorem vote_words (a b c : Fin 1000) :
    Scalar.select
        (IntOp.ori (IntOp.cmpi .eq (BitVec.ofNat 32 a.val) (BitVec.ofNat 32 b.val))
          (IntOp.cmpi .eq (BitVec.ofNat 32 a.val) (BitVec.ofNat 32 c.val)))
        (BitVec.ofNat 32 a.val)
        (Scalar.select (IntOp.cmpi .eq (BitVec.ofNat 32 b.val) (BitVec.ofNat 32 c.val)) (BitVec.ofNat 32 b.val)
          (BitVec.ofNat 32 c.val))
      = BitVec.ofNat 32 (vote a b c).val := by
  rw [cmpi_class, cmpi_class, cmpi_class]
  unfold vote
  by_cases hab : a = b <;> by_cases hac : a = c <;> by_cases hbc : b = c <;> simp [hab, hac, hbc, IntOp.ori, Scalar.select]

/-- The average of the entries of the branches that agree with the vote. -/
def avg (a b c : Fin 1000) (x y z : ℝ) : ℝ :=
  ((if a = vote a b c then x else 0) + (if b = vote a b c then y else 0) + (if c = vote a b c then z else 0))
    / (count a b c (vote a b c) : ℝ)

/-- A bit widened to a word, read as an integer. -/
theorem toInt_bit (p : Bool) : (BitVec.setWidth 32 (BitVec.ofBool p)).toInt = if p then 1 else 0 := by
  cases p <;> rfl

/-- The kernel's average: every agreeing branch's entry times the reciprocal of their number. -/
theorem avg_kernel (a b c : Fin 1000) (x y z : ℝ) (A B C : BitVec 1)
    (hA : A = BitVec.ofBool (decide (a = vote a b c))) (hB : B = BitVec.ofBool (decide (b = vote a b c)))
    (hC : C = BitVec.ofBool (decide (c = vote a b c))) :
    Scalar.select A ((x : EReal) * Ideal.div 1 (FloatOps.sitofp (F := Ideal) .f32 (BitVec.setWidth 32 A)
          + FloatOps.sitofp (F := Ideal) .f32 (BitVec.setWidth 32 B) + FloatOps.sitofp (F := Ideal) .f32 (BitVec.setWidth 32 C))) 0
      + Scalar.select B ((y : EReal) * Ideal.div 1 (FloatOps.sitofp (F := Ideal) .f32 (BitVec.setWidth 32 A)
          + FloatOps.sitofp (F := Ideal) .f32 (BitVec.setWidth 32 B) + FloatOps.sitofp (F := Ideal) .f32 (BitVec.setWidth 32 C))) 0
      + Scalar.select C ((z : EReal) * Ideal.div 1 (FloatOps.sitofp (F := Ideal) .f32 (BitVec.setWidth 32 A)
          + FloatOps.sitofp (F := Ideal) .f32 (BitVec.setWidth 32 B) + FloatOps.sitofp (F := Ideal) .f32 (BitVec.setWidth 32 C))) 0
      = ((avg a b c x y z : ℝ) : EReal) := by
  have hs : ∀ p : Bool, FloatOps.sitofp (F := Ideal) .f32 (BitVec.setWidth 32 (BitVec.ofBool p))
      = (((if p then 1 else 0 : ℝ)) : EReal) := fun p => by
    show (((BitVec.setWidth 32 (BitVec.ofBool p)).toInt : ℝ) : EReal) = _
    rw [toInt_bit]
    cases p <;> simp
  have hpos := count_vote_pos a b c
  have hcount : ((count a b c (vote a b c) : ℕ) : ℝ)
      = (if decide (a = vote a b c) then 1 else 0) + (if decide (b = vote a b c) then 1 else 0)
        + (if decide (c = vote a b c) then 1 else 0) := by
    unfold count
    push_cast
    simp
  have hne : ((count a b c (vote a b c) : ℕ) : ℝ) ≠ 0 := by exact_mod_cast hpos.ne'
  subst hA hB hC
  rw [hs, hs, hs, ← EReal.coe_add, ← EReal.coe_add, ← hcount, Ideal.div_coe hne, select_ofBool, select_ofBool, select_ofBool, avg,
    one_mul, ← EReal.coe_mul, ← EReal.coe_mul, ← EReal.coe_mul, ← EReal.coe_zero]
  generalize ((count a b c (vote a b c) : ℕ) : ℝ) = n
  generalize vote a b c = v
  simp only [decide_eq_true_eq]
  split_ifs <;> simp only [← EReal.coe_add] <;> exact EReal.coe_eq_coe_iff.2 (by ring)

/-- The reference's average: the sum of the agreeing branches' entries, over their number. -/
theorem avg_reference (a b c : Fin 1000) (x y z : ℝ) :
    Ideal.div
        (Scalar.select (IntOp.cmpi .eq (BitVec.ofNat 32 a.val) (BitVec.ofNat 32 (vote a b c).val))
          ((x : EReal) + Scalar.select (IntOp.cmpi .eq (BitVec.ofNat 32 b.val) (BitVec.ofNat 32 (vote a b c).val))
            ((y : EReal) + Scalar.select (IntOp.cmpi .eq (BitVec.ofNat 32 c.val) (BitVec.ofNat 32 (vote a b c).val)) (z : EReal) 0)
            (Scalar.select (IntOp.cmpi .eq (BitVec.ofNat 32 c.val) (BitVec.ofNat 32 (vote a b c).val)) (z : EReal) 0))
          (Scalar.select (IntOp.cmpi .eq (BitVec.ofNat 32 b.val) (BitVec.ofNat 32 (vote a b c).val))
            ((y : EReal) + Scalar.select (IntOp.cmpi .eq (BitVec.ofNat 32 c.val) (BitVec.ofNat 32 (vote a b c).val)) (z : EReal) 0)
            (Scalar.select (IntOp.cmpi .eq (BitVec.ofNat 32 c.val) (BitVec.ofNat 32 (vote a b c).val)) (z : EReal) 0)))
        (FloatOps.sitofp (F := Ideal) .f32 (BitVec.ofNat 32 (count a b c (vote a b c))))
      = ((avg a b c x y z : ℝ) : EReal) := by
  have hlt : count a b c (vote a b c) < 2 ^ 31 := by
    unfold count
    split_ifs <;> norm_num
  have hn : FloatOps.sitofp (F := Ideal) .f32 (BitVec.ofNat 32 (count a b c (vote a b c)))
      = (((count a b c (vote a b c) : ℕ) : ℝ) : EReal) := by
    show (((BitVec.ofNat 32 (count a b c (vote a b c))).toInt : ℝ) : EReal) = _
    rw [StableHlo.Predicate.toInt_ofNat_small _ hlt]
    push_cast
    rfl
  have hne : ((count a b c (vote a b c) : ℕ) : ℝ) ≠ 0 := by exact_mod_cast (count_vote_pos a b c).ne'
  rw [hn, Ideal.div_coe hne, cmpi_class, cmpi_class, cmpi_class]
  simp only [select_ofBool]
  rw [avg, ← EReal.coe_zero]
  generalize ((count a b c (vote a b c) : ℕ) : ℝ) = n
  generalize vote a b c = v
  simp only [decide_eq_true_eq]
  split_ifs <;> simp only [← EReal.coe_add, ← EReal.coe_mul] <;> exact EReal.coe_eq_coe_iff.2 (by ring)

/-- The mean of three entries, as the product with a third. -/
theorem mean_kernel (x y z : ℝ) :
    ((x : EReal) + (y : EReal) + (z : EReal)) * ((1 / 3 : ℝ) : EReal) = (((x + y + z) / 3 : ℝ) : EReal) := by
  rw [← EReal.coe_add, ← EReal.coe_add, ← EReal.coe_mul]
  congr 1
  ring

/-- The mean of three entries, as the quotient by three. -/
theorem mean_reference (x y z : ℝ) :
    Ideal.div ((x : EReal) + (y : EReal) + (z : EReal)) (Ideal.ofBits .f32 1077936128#32) = (((x + y + z) / 3 : ℝ) : EReal) := by
  have h3 : Ideal.ofBits .f32 1077936128#32 = ((3 : ℝ) : EReal) := by
    have hb : BitVec.extractLsb' 31 1 1077936128#32 = 0#1 := by decide
    simp [Ideal.ofBits, Ideal.ieee, hb, Nat.shiftRight_eq_div_pow]
    rw [← EReal.coe_mul]
    norm_num
  rw [h3, Ideal.div_coe (by norm_num), ← EReal.coe_add, ← EReal.coe_add, ← EReal.coe_mul]
  congr 1
  ring

end Cert.Row
end
-- ==== Proof.Hand.Spec.lean ====
module

public import proofs.«01_k».proof.Proof.Hand.Row

/-! The two linear layers over the reals, which the kernel and the reference are both read as. -/

@[expose] public section

noncomputable section

open Idealize.ShloMosaic

namespace Cert.Spec

/-- One branch's feature `h` of a row. -/
def feat (x : Fin 256 → ℝ) (w : Fin 256 → Fin 128 → ℝ) (h : Fin 128) : ℝ := max (∑ k, x k * w k h) 0

/-- One branch's logit `j` of a row. -/
def logit (x : Fin 256 → ℝ) (w : Fin 256 → Fin 128 → ℝ) (v : Fin 128 → Fin 1000 → ℝ) (j : Fin (999 + 1)) : ℝ :=
  ∑ h, feat x w h * v h j

/-- A sum of products of reals, read among the extended reals. -/
theorem sum_mul {n : Nat} (a b : Fin n → ℝ) : (∑ k, (a k : EReal) * (b k : EReal)) = ((∑ k, a k * b k : ℝ) : EReal) := by
  rw [← Row.coe_sum]
  exact Finset.sum_congr rfl fun k _ => (EReal.coe_mul _ _).symm

/-- A real clamped below at zero, read among the extended reals. -/
theorem max_zero (a : ℝ) : max (a : EReal) 0 = ((max a 0 : ℝ) : EReal) :=
  (EReal.coe_strictMono.monotone.map_max (a := a) (b := 0)).symm

end Cert.Spec
end
-- ==== Proof.Hand.KerAt.lean ====
module

public import proofs.«01_k».proof.Defs
public import proofs.«01_k».proof.Proof.Gen.KernelIdeal.Skeleton
public import proofs.«01_k».proof.Proof.Hand.Axis
public import proofs.«01_k».proof.Proof.Hand.Spec
public import Idealize.ShloMosaic.PureOps.IdealRules
public import Idealize.ShloMosaic.Lib.Claim
public import Idealize.ShloMosaic.Lib.Pointwise
public import Idealize.ShloMosaic.Lib.Tactic

/-! The kernel's columns: the largest logit, the predicted class and the probabilities of a column of real logits. -/

@[expose] public section

noncomputable section

open Idealize.ShloMosaic Idealize.SL.Sem

namespace Cert.KernelIdeal.Val

open Cert.KernelIdeal Cert.KernelIdeal.Gen

/-- The largest logit of every column. -/
def colMax (l : FVec Ideal S1000x256 .f32) : FVec Ideal S1x256 .f32 :=
  shapeCast S1x256 (multiReduction .maximumf [0] S256 l 0xFF800000#32 reduces_S1000x256_S256 (.inl rfl) rfl) shapeCasts_S256_S1x256

/-- The class number where the logit is the column's largest, 1000 elsewhere. -/
def marked (l : FVec Ideal S1000x256 .f32) : FVec Ideal S1000x256 .f32 :=
  select (cmpf .oeq l (broadcastTo S1000x256 (colMax l) broadcasts_S1x256_S1000x256)) (k0_pay3 (F := Ideal))
    (broadcast S1000x256 (Scalar.ofBits .f32 0x447A0000#32))

/-- The smallest entry of every column. -/
def colMin (l : FVec Ideal S1000x256 .f32) : FVec Ideal S1x256 .f32 :=
  shapeCast S1x256 (multiReduction .minimumf [0] S256 l 0x7F800000#32 reduces_S1000x256_S256 (.inl rfl) rfl) shapeCasts_S256_S1x256

/-- The sum of every column. -/
def colSum (l : FVec Ideal S1000x256 .f32) : FVec Ideal S1x256 .f32 :=
  shapeCast S1x256 (multiReduction .add [0] S256 l 0x00000000#32 reduces_S1000x256_S256 (.inl rfl) rfl) shapeCasts_S256_S1x256

/-- The predicted class of every column. -/
def predK (l : FVec Ideal S1000x256 .f32) : IVec S1x256 32 := fptosi 32 (colMin (marked l))

/-- The exponentials of the logits less their column's largest, as powers of two. -/
def expoK (l : FVec Ideal S1000x256 .f32) : FVec Ideal S1000x256 .f32 :=
  exp2 (subf (mulf l (broadcast S1000x256 (Named.named κ "log2e" 0x3FB8AA3B#32)))
    (broadcastTo S1000x256 (mulf (colMax l) (broadcast S1x256 (Named.named κ "log2e" 0x3FB8AA3B#32))) broadcasts_S1x256_S1000x256))

/-- The probabilities of every column. -/
def probK (l : FVec Ideal S1000x256 .f32) : FVec Ideal S1000x256 .f32 :=
  mulf (expoK l) (broadcastTo S1000x256
    (divf (broadcast S1x256 (Scalar.ofBits .f32 0x3F800000#32)) (colSum (expoK l))) broadcasts_S1x256_S1000x256)

/-- The first branch's predicted class. -/
theorem pay9_eq (x : Vec Ideal S256x256 .f32) (w : Vec Ideal S256x384 .f32) (v : Vec Ideal S1x1000x128 .f32) :
    k0_pay9 x w v = predK (k0_pay7 x w v) := rfl

/-- The first branch's probabilities. -/
theorem pay10_eq (x : Vec Ideal S256x256 .f32) (w : Vec Ideal S256x384 .f32) (v : Vec Ideal S1x1000x128 .f32) :
    k0_pay10 x w v = probK (k0_pay7 x w v) := rfl

/-- The second branch's predicted class. -/
theorem pay16_eq (f : FVec Ideal S256x384 .f32) (v : Vec Ideal S1x1000x128 .f32) :
    k0_pay16 k0_pay3 f v = predK (k0_pay14 f v) := rfl

/-- The second branch's probabilities. -/
theorem pay17_eq (f : FVec Ideal S256x384 .f32) (v : Vec Ideal S1x1000x128 .f32) :
    k0_pay17 f v = probK (k0_pay14 f v) := rfl

/-- The third branch's predicted class. -/
theorem pay23_eq (f : FVec Ideal S256x128 .f32) (v : Vec Ideal S1x1000x128 .f32) :
    k0_pay23 k0_pay3 f v = predK (k0_pay21 f v) := rfl

/-- The third branch's probabilities. -/
theorem pay24_eq (f : FVec Ideal S256x128 .f32) (v : Vec Ideal S1x1000x128 .f32) :
    k0_pay24 f v = probK (k0_pay21 f v) := rfl

/-- The first branch's logits, in the third's form. -/
theorem pay7_eq (x : Vec Ideal S256x256 .f32) (w : Vec Ideal S256x384 .f32) (v : Vec Ideal S1x1000x128 .f32) :
    k0_pay7 x w v = k0_pay21 (k0_pay5 x w) v := rfl

/-- The second branch's logits, in the third's form. -/
theorem pay14_eq (f : FVec Ideal S256x384 .f32) (v : Vec Ideal S1x1000x128 .f32) :
    k0_pay14 f v = k0_pay21 (k0_pay12 f) v := rfl

/-- The pattern of one thousand. -/
theorem ofBits_thousand : Ideal.ofBits .f32 1148846080#32 = ((1000 : ℝ) : EReal) := by
  have hb : BitVec.extractLsb' 31 1 1148846080#32 = 0#1 := by decide
  simp [Ideal.ofBits, Ideal.ieee, hb, Nat.shiftRight_eq_div_pow]
  rw [← EReal.coe_mul]
  norm_num

/-- The value of the constant named after the binary logarithm of e. -/
theorem log2e_value (w : BitVec 32) :
    Named.named (F := Ideal) (φ := .f32) κ "log2e" w = (((Real.log 2)⁻¹ : ℝ) : EReal) :=
  IdealRules.named_const.ideal_named_scalar _ _ _ _ rfl

/-- The value of the constant named after a third. -/
theorem third_value (w : BitVec 32) :
    Named.named (F := Ideal) (φ := .f32) κ "third" w = ((1 / 3 : ℝ) : EReal) :=
  IdealRules.named_const.ideal_named_scalar _ _ _ _ rfl

/-- A class number below one thousand, converted from a word to a float. -/
theorem class_float (j : Fin 1000) :
    FloatOps.sitofp (F := Ideal) .f32 (BitVec.ofNat 32 j.val) = ((j.val : ℝ) : EReal) := by
  show (((BitVec.ofNat 32 j.val).toInt : ℝ) : EReal) = _
  rw [StableHlo.Predicate.toInt_ofNat_small _ (lt_trans j.isLt (by norm_num))]
  push_cast
  rfl

/-- A class number below one thousand, converted from a float to a word. -/
theorem class_word (j : Fin 1000) :
    FloatOps.fptosi (F := Ideal) (φ := .f32) 32 ((j.val : ℝ) : EReal) = BitVec.ofNat 32 j.val := by
  show BitVec.ofInt 32 (Ideal.toIntClamped (-(2 ^ (32 - 1))) (2 ^ (32 - 1) - 1) _) = _
  have hj := j.isLt
  rw [Ideal.toIntClamped_coe, if_pos (Nat.cast_nonneg _), Int.floor_natCast, min_eq_right (by norm_num; omega),
    max_eq_right (by norm_num), BitVec.ofInt_natCast]

section columns

variable (l : FVec Ideal S1000x256 .f32) (b : Fin 256) (g : Fin (999 + 1) → ℝ)
  (hl : ∀ j : Fin 1000, l (ix2 j b) = (g j : EReal))

include hl

/-- The largest logit of a column of reals. -/
theorem colMax_at : colMax l (ix2 0 b) = (g (Row.top g) : EReal) := by
  pointwise [colMax]
  rw [Axis.ofBits_bot]
  simp only [hl]
  exact Row.fold_max g

/-- The marks of a column of reals. -/
theorem marked_at (j : Fin 1000) :
    marked l (ix2 j b) = if (g j : EReal) = (g (Row.top g) : EReal) then ((j.val : ℝ) : EReal) else ((1000 : ℝ) : EReal) := by
  pointwise [marked, k0_pay3]
  rw [colMax_at l b g hl, hl, class_float, ofBits_thousand]

/-- The predicted class of a column of reals. -/
theorem predK_at : predK l (ix2 0 b) = BitVec.ofNat 32 (Row.top g).val := by
  have hm : colMin (marked l) (ix2 0 b) = (((Row.top g).val : ℝ) : EReal) := by
    pointwise [colMin]
    rw [Axis.ofBits_top]
    simp only [marked_at l b g hl]
    exact Row.fold_min g
  pointwise [predK]
  rw [hm]
  exact class_word (Row.top g)

/-- The exponentials of a column of reals. -/
theorem expoK_at (j : Fin 1000) : expoK l (ix2 j b) = ((Real.exp (g j - g (Row.top g)) : ℝ) : EReal) := by
  pointwise [expoK]
  rw [colMax_at l b g hl, hl, log2e_value]
  exact Row.exp2_scaled _ _

/-- The probabilities of a column of reals. -/
theorem probK_at (j : Fin 1000) : probK l (ix2 j b) = (Row.soft g j : EReal) := by
  have hs : colSum (expoK l) (ix2 0 b) = ∑ i : Fin 1000, ((Real.exp (g i - g (Row.top g)) : ℝ) : EReal) := by
    pointwise [colSum]
    simp only [expoK_at l b g hl]
  pointwise [probK]
  rw [hs, expoK_at l b g hl]
  exact Row.soft_mul g j

end columns

/-- A branch's logits over real features and weights. -/
theorem logitK_at (f : FVec Ideal S256x128 .f32) (v : Vec Ideal S1x1000x128 .f32) (b : Fin 256) (F : Fin 128 → ℝ)
    (U : Fin 128 → Fin 1000 → ℝ) (hf : ∀ h, f (ix2 b h) = (F h : EReal)) (hv : ∀ j h, v (ix3 0 j h) = (U h j : EReal)) (j : Fin 1000) :
    k0_pay21 f v (ix2 j b) = ((∑ h, F h * U h j : ℝ) : EReal) := by
  pointwise [k0_pay21]
  simp only [hf, hv]
  rw [Spec.sum_mul]
  simp only [mul_comm]

/-- The features of all branches over real rows and weights. -/
theorem featK_at (x : Vec Ideal S256x256 .f32) (w : Vec Ideal S256x384 .f32) (b : Fin 256) (j : Fin 384) (X : Fin 256 → ℝ)
    (W : Fin 256 → ℝ) (hx : ∀ k, x (ix2 b k) = (X k : EReal)) (hw : ∀ k, w (ix2 k j) = (W k : EReal)) :
    k0_pay4 x w (ix2 b j) = ((max (∑ k, X k * W k) 0 : ℝ) : EReal) := by
  pointwise [k0_pay4]
  simp only [hx, hw]
  rw [Spec.sum_mul]
  exact Spec.max_zero _

/-- The kernel's mean of three probabilities. -/
theorem meanK_at (o1 o2 o3 : FVec Ideal S1000x256 .f32) (j : Fin 1000) (b : Fin 256) (x y z : ℝ) (h1 : o1 (ix2 j b) = (x : EReal))
    (h2 : o2 (ix2 j b) = (y : EReal)) (h3 : o3 (ix2 j b) = (z : EReal)) :
    k0_pay2 o1 o2 o3 (ix2 j b) = (((x + y + z) / 3 : ℝ) : EReal) := by
  pointwise [k0_pay2]
  rw [h1, h2, h3, third_value]
  exact Row.mean_kernel x y z

/-- The kernel's average over the branches that agree with the vote. -/
theorem avgK_at (o1 o2 o3 : FVec Ideal S1000x256 .f32) (a1 a2 a3 : IVec S1x256 1) (j : Fin 1000) (b : Fin 256) (x y z : ℝ)
    (k1 k2 k3 : Fin (999 + 1)) (h1 : o1 (ix2 j b) = (x : EReal)) (h2 : o2 (ix2 j b) = (y : EReal)) (h3 : o3 (ix2 j b) = (z : EReal))
    (e1 : a1 (ix2 0 b) = BitVec.ofBool (decide (k1 = Row.vote k1 k2 k3))) (e2 : a2 (ix2 0 b) = BitVec.ofBool (decide (k2 = Row.vote k1 k2 k3)))
    (e3 : a3 (ix2 0 b) = BitVec.ofBool (decide (k3 = Row.vote k1 k2 k3))) :
    k0_pay1 o1 o2 o3 a1 a2 a3 (ix2 j b) = (Row.avg k1 k2 k3 x y z : EReal) := by
  pointwise [k0_pay1]
  rw [h1, h2, h3]
  exact Row.avg_kernel k1 k2 k3 x y z _ _ _ e1 e2 e3

/-- The kernel's vote of three predicted classes. -/
theorem voteK_at (p1 p2 : IVec S1x256 32) (f : FVec Ideal S256x128 .f32) (v : Vec Ideal S1x1000x128 .f32) (b : Fin 256)
    (k1 k2 k3 : Fin (999 + 1)) (h1 : p1 (ix2 0 b) = BitVec.ofNat 32 k1.val) (h2 : p2 (ix2 0 b) = BitVec.ofNat 32 k2.val)
    (h3 : k0_pay23 (k0_pay3 (F := Ideal)) f v (ix2 0 b) = BitVec.ofNat 32 k3.val) :
    k0_pay26 (k0_pay3 (F := Ideal)) p1 p2 f v (ix2 0 b) = BitVec.ofNat 32 (Row.vote k1 k2 k3).val := by
  pointwise [k0_pay26]
  rw [h1, h2, h3]
  exact Row.vote_words k1 k2 k3

end Cert.KernelIdeal.Val
end
-- ==== Proof.Hand.KerBlk.lean ====
module

public import proofs.«01_k».proof.Proof.Hand.KerAt
public import proofs.«01_k».proof.Proof.Gen.KernelIdeal.Frame
public import Idealize.ShloMosaic.Lib.Pipeline.ValueKit
public import Idealize.ShloMosaic.Lib.ValueLayout

/-! The kernel's output blocks at one grid point, over blocks of real inputs. -/

@[expose] public section

noncomputable section

open Idealize.ShloMosaic Idealize.SL.Sem

namespace Cert.KernelIdeal.Val

open Cert.KernelIdeal Cert.KernelIdeal.Gen

/-- Feature `h` of branch `s` among the columns of the three branches side by side. -/
def lane (s : Fin 3) (h : Fin 128) : Fin 384 := ⟨s.val * 128 + h.val, by omega⟩

/-- The first branch's features are the first 128 columns. -/
theorem pay5_at (x : Vec Ideal S256x256 .f32) (w : Vec Ideal S256x384 .f32) (b : Fin 256) (h : Fin 128) :
    k0_pay5 x w (ix2 b h) = k0_pay4 x w (ix2 b (lane 0 h)) := by
  unfold k0_pay5
  exact extractStridedSlice_apply _ _ _ _ _ fun a => match a with
    | ⟨0, _⟩ => by simp
    | ⟨1, _⟩ => by simp [lane]

/-- The second branch's features are the next 128 columns. -/
theorem pay12_at (f : FVec Ideal S256x384 .f32) (b : Fin 256) (h : Fin 128) :
    k0_pay12 f (ix2 b h) = f (ix2 b (lane 1 h)) := by
  unfold k0_pay12
  exact extractStridedSlice_apply _ _ _ _ _ fun a => match a with
    | ⟨0, _⟩ => by simp
    | ⟨1, _⟩ => by simp [lane]

/-- The third branch's features are the last 128 columns. -/
theorem pay19_at (f : FVec Ideal S256x384 .f32) (b : Fin 256) (h : Fin 128) :
    k0_pay19 f (ix2 b h) = f (ix2 b (lane 2 h)) := by
  unfold k0_pay19
  exact extractStridedSlice_apply _ _ _ _ _ fun a => match a with
    | ⟨0, _⟩ => by simp
    | ⟨1, _⟩ => by simp [lane]

/-- The first branch's features, as a slab. -/
theorem pay6_at (x : Vec Ideal S256x256 .f32) (w : Vec Ideal S256x384 .f32) (b : Fin 256) (h : Fin 128) :
    k0_pay6 x w (ix3 0 b h) = k0_pay5 x w (ix2 b h) := by
  pointwise [k0_pay6]

/-- The second branch's features, as a slab. -/
theorem pay13_at (f : FVec Ideal S256x384 .f32) (b : Fin 256) (h : Fin 128) :
    k0_pay13 f (ix3 0 b h) = k0_pay12 f (ix2 b h) := by
  pointwise [k0_pay13]

/-- The third branch's features, as a slab. -/
theorem pay20_at (f : FVec Ideal S256x128 .f32) (b : Fin 256) (h : Fin 128) :
    k0_pay20 f (ix3 0 b h) = f (ix2 b h) := by
  pointwise [k0_pay20]

/-- Two rows of class words compared at a column. -/
theorem cmpi_at (p q : IVec S1x256 32) (b : Fin 256) (k l : Fin 1000) (hp : p (ix2 0 b) = BitVec.ofNat 32 k.val)
    (hq : q (ix2 0 b) = BitVec.ofNat 32 l.val) : cmpi .eq p q (ix2 0 b) = BitVec.ofBool (decide (k = l)) := by
  show IntOp.cmpi .eq (p (ix2 0 b)) (q (ix2 0 b)) = _
  rw [hp, hq]
  exact Row.cmpi_class k l

/-- A position in slab `k` of a stack of three is that slab's position. -/
theorem slab_eq {m n : Nat} {s : Fin 3} {j : Fin m} {b : Fin n} {k : Nat} {x : (⟨3, ![1, m, n]⟩ : Shape).Idx} (hk : k < 3)
    (e : ∀ a : Fin 3, ((ix3 s j b : (⟨3, ![3, m, n]⟩ : Shape).Idx) a : Nat) = (![k, 0, 0] : Fin 3 → Nat) a + x a) :
    s = ⟨k, hk⟩ ∧ x = ix3 0 j b := by
  have e0 : s.val = k + (x 0).val := e 0
  have e1 : j.val = 0 + (x 1).val := e 1
  have e2 : b.val = 0 + (x 2).val := e 2
  have h0 : (x 0).val < 1 := (x 0).isLt
  refine ⟨Fin.ext (by show s.val = k; omega), funext fun a => Fin.ext ?_⟩
  match a with
  | ⟨0, _⟩ => show (x 0).val = 0; omega
  | ⟨1, _⟩ => show (x 1).val = j.val; omega
  | ⟨2, _⟩ => show (x 2).val = b.val; omega

section block

variable (x0 : Vec Ideal S256x256 .f32) (x1 : Vec Ideal S256x384 .f32) (x2 : Vec Ideal S3x1000x128 .f32) (b : Fin 256)
  (X : Fin 256 → ℝ) (W : Fin 3 → Fin 256 → Fin 128 → ℝ) (U : Fin 3 → Fin 128 → Fin 1000 → ℝ)
  (hx : ∀ k, x0 (ix2 b k) = (X k : EReal)) (hw : ∀ s k h, x1 (ix2 k (lane s h)) = (W s k h : EReal))
  (hv : ∀ s j h, x2 (ix3 s j h) = (U s h j : EReal))

/-- The whole block of rows, read. -/
theorem ld_rows : View.ld x0 r0_0 = x0 := View.ld_unit_lit (S := S256x256) inb_S256x256_S256x256_0_0 x0 (by decide)

/-- The whole of the first layers' weights, read. -/
theorem ld_first : View.ld x1 r0_1 = x1 := View.ld_unit_lit (S := S256x384) inb_S256x384_S256x384_0_0 x1 (by decide)

/-- The first branch's second weights, read. -/
theorem ld_second0 (j : Fin 1000) (h : Fin 128) : View.ld x2 r0_3 (ix3 0 j h) = x2 (ix3 0 j h) :=
  View.ld_unit_apply_of _ _ _ _ _ _ fun a => match a with
    | ⟨0, _⟩ => rfl
    | ⟨1, _⟩ => by simp
    | ⟨2, _⟩ => by simp

/-- The second branch's second weights, read. -/
theorem ld_second1 (j : Fin 1000) (h : Fin 128) : View.ld x2 r0_6 (ix3 0 j h) = x2 (ix3 1 j h) :=
  View.ld_unit_apply_of _ _ _ _ _ _ fun a => match a with
    | ⟨0, _⟩ => rfl
    | ⟨1, _⟩ => by simp
    | ⟨2, _⟩ => by simp

/-- The third branch's second weights, read. -/
theorem ld_second2 (j : Fin 1000) (h : Fin 128) : View.ld x2 r0_9 (ix3 0 j h) = x2 (ix3 2 j h) :=
  View.ld_unit_apply_of _ _ _ _ _ _ fun a => match a with
    | ⟨0, _⟩ => rfl
    | ⟨1, _⟩ => by simp
    | ⟨2, _⟩ => by simp

include hx hw

/-- The features of the three branches side by side. -/
theorem feats_at (s : Fin 3) (h : Fin 128) : k0_pay4 x0 x1 (ix2 b (lane s h)) = (Spec.feat X (W s) h : EReal) :=
  featK_at x0 x1 b (lane s h) X (fun k => W s k h) hx fun k => hw s k h

include hv

/-- The first branch's logits. -/
theorem logit0_at (j : Fin 1000) :
    k0_pay21 (k0_pay5 x0 x1) (View.ld x2 r0_3) (ix2 j b) = (Spec.logit X (W 0) (U 0) j : EReal) :=
  logitK_at _ _ b (Spec.feat X (W 0)) (U 0) (fun h => (pay5_at x0 x1 b h).trans (feats_at x0 x1 b X W hx hw 0 h))
    (fun j h => (ld_second0 x2 j h).trans (hv 0 j h)) j

/-- The second branch's logits. -/
theorem logit1_at (j : Fin 1000) :
    k0_pay21 (k0_pay12 (k0_pay4 x0 x1)) (View.ld x2 r0_6) (ix2 j b) = (Spec.logit X (W 1) (U 1) j : EReal) :=
  logitK_at _ _ b (Spec.feat X (W 1)) (U 1) (fun h => (pay12_at _ b h).trans (feats_at x0 x1 b X W hx hw 1 h))
    (fun j h => (ld_second1 x2 j h).trans (hv 1 j h)) j

/-- The third branch's logits. -/
theorem logit2_at (j : Fin 1000) :
    k0_pay21 (k0_pay19 (k0_pay4 x0 x1)) (View.ld x2 r0_9) (ix2 j b) = (Spec.logit X (W 2) (U 2) j : EReal) :=
  logitK_at _ _ b (Spec.feat X (W 2)) (U 2) (fun h => (pay19_at _ b h).trans (feats_at x0 x1 b X W hx hw 2 h))
    (fun j h => (ld_second2 x2 j h).trans (hv 2 j h)) j

/-- The first branch's predicted class. -/
theorem pred0_at : k0_pay32 x0 x1 x2 (ix2 0 b) = BitVec.ofNat 32 (Row.top (Spec.logit X (W 0) (U 0))).val := by
  unfold k0_pay32
  rw [ld_rows, ld_first, pay9_eq, pay7_eq]
  exact predK_at _ b _ (logit0_at x0 x1 x2 b X W U hx hw hv)

/-- The second branch's predicted class. -/
theorem pred1_at : k0_pay34 x0 x1 x2 (ix2 0 b) = BitVec.ofNat 32 (Row.top (Spec.logit X (W 1) (U 1))).val := by
  unfold k0_pay34 k0_pay30 k0_pay31
  rw [ld_rows, ld_first, pay16_eq, pay14_eq]
  exact predK_at _ b _ (logit1_at x0 x1 x2 b X W U hx hw hv)

/-- The third branch's predicted class. -/
theorem pred2_at : k0_pay23 (k0_pay3 (F := Ideal)) (k0_pay36 x0 x1 x2) (View.ld x2 r0_9) (ix2 0 b)
    = BitVec.ofNat 32 (Row.top (Spec.logit X (W 2) (U 2))).val := by
  unfold k0_pay36 k0_pay31
  rw [ld_rows, ld_first, pay23_eq]
  exact predK_at _ b _ (logit2_at x0 x1 x2 b X W U hx hw hv)

/-- The first branch's probabilities. -/
theorem prob0_at (j : Fin 1000) : k0_pay33 x0 x1 x2 (ix2 j b) = (Row.soft (Spec.logit X (W 0) (U 0)) j : EReal) := by
  unfold k0_pay33
  rw [ld_rows, ld_first, pay10_eq, pay7_eq]
  exact probK_at _ b _ (logit0_at x0 x1 x2 b X W U hx hw hv) j

/-- The second branch's probabilities. -/
theorem prob1_at (j : Fin 1000) : k0_pay35 x0 x1 x2 (ix2 j b) = (Row.soft (Spec.logit X (W 1) (U 1)) j : EReal) := by
  unfold k0_pay35 k0_pay31
  rw [ld_rows, ld_first, pay17_eq, pay14_eq]
  exact probK_at _ b _ (logit1_at x0 x1 x2 b X W U hx hw hv) j

/-- The third branch's probabilities. -/
theorem prob2_at (j : Fin 1000) : k0_pay37 x0 x1 x2 (ix2 j b) = (Row.soft (Spec.logit X (W 2) (U 2)) j : EReal) := by
  unfold k0_pay37 k0_pay36 k0_pay31
  rw [ld_rows, ld_first, pay24_eq]
  exact probK_at _ b _ (logit2_at x0 x1 x2 b X W U hx hw hv) j

/-- The vote's payload. -/
theorem vote_at : k0_pay26 (k0_pay30 x0 x1 x2) (k0_pay32 x0 x1 x2) (k0_pay34 x0 x1 x2) (k0_pay36 x0 x1 x2) (View.ld x2 r0_9) (ix2 0 b)
    = BitVec.ofNat 32 (Row.vote (Row.top (Spec.logit X (W 0) (U 0))) (Row.top (Spec.logit X (W 1) (U 1)))
        (Row.top (Spec.logit X (W 2) (U 2)))).val :=
  voteK_at _ _ _ _ b _ _ _ (pred0_at x0 x1 x2 b X W U hx hw hv) (pred1_at x0 x1 x2 b X W U hx hw hv)
    (pred2_at x0 x1 x2 b X W U hx hw hv)

/-- The block of votes. -/
theorem out5_at : out0_5 x0 x1 x2 (ix2 0 b)
    = BitVec.ofNat 32 (Row.vote (Row.top (Spec.logit X (W 0) (U 0))) (Row.top (Spec.logit X (W 1) (U 1)))
        (Row.top (Spec.logit X (W 2) (U 2)))).val := by
  unfold out0_5
  refine (congrFun (View.canon_cons_unit_lit (S := S1x256) inb_S1x256_S1x256_0_0 _ [] (by decide)) (ix2 0 b)).trans ?_
  exact vote_at x0 x1 x2 b X W U hx hw hv

/-- The block of averages over the agreeing branches. -/
theorem out6_at (j : Fin 1000) : out0_6 x0 x1 x2 (ix2 j b)
    = (Row.avg (Row.top (Spec.logit X (W 0) (U 0))) (Row.top (Spec.logit X (W 1) (U 1))) (Row.top (Spec.logit X (W 2) (U 2)))
        (Row.soft (Spec.logit X (W 0) (U 0)) j) (Row.soft (Spec.logit X (W 1) (U 1)) j) (Row.soft (Spec.logit X (W 2) (U 2)) j) : EReal) := by
  unfold out0_6
  refine (congrFun (View.canon_cons_unit_lit (S := S1000x256) inb_S1000x256_S1000x256_0_0 _ [] (by decide)) (ix2 j b)).trans ?_
  have hvote := vote_at x0 x1 x2 b X W U hx hw hv
  have h0 := pred0_at x0 x1 x2 b X W U hx hw hv
  have h1 := pred1_at x0 x1 x2 b X W U hx hw hv
  have h2 := pred2_at x0 x1 x2 b X W U hx hw hv
  refine avgK_at _ _ _ _ _ _ j b _ _ _ _ _ _ (prob0_at x0 x1 x2 b X W U hx hw hv j) (prob1_at x0 x1 x2 b X W U hx hw hv j)
    (prob2_at x0 x1 x2 b X W U hx hw hv j) ?_ ?_ ?_
  · unfold k0_pay27
    exact cmpi_at _ _ b _ _ h0 hvote
  · unfold k0_pay28
    exact cmpi_at _ _ b _ _ h1 hvote
  · unfold k0_pay29
    exact cmpi_at _ _ b _ _ h2 hvote

/-- The block of means. -/
theorem out7_at (j : Fin 1000) : out0_7 x0 x1 x2 (ix2 j b)
    = (((Row.soft (Spec.logit X (W 0) (U 0)) j + Row.soft (Spec.logit X (W 1) (U 1)) j + Row.soft (Spec.logit X (W 2) (U 2)) j) / 3
        : ℝ) : EReal) := by
  unfold out0_7
  refine (congrFun (View.canon_cons_unit_lit (S := S1000x256) inb_S1000x256_S1000x256_0_0 _ [] (by decide)) (ix2 j b)).trans ?_
  exact meanK_at _ _ _ j b _ _ _ (prob0_at x0 x1 x2 b X W U hx hw hv j) (prob1_at x0 x1 x2 b X W U hx hw hv j)
    (prob2_at x0 x1 x2 b X W U hx hw hv j)

/-- The block of probabilities, branch by branch. -/
theorem out4_at (s : Fin 3) (j : Fin 1000) : out0_4 x0 x1 x2 (ix3 s j b) = (Row.soft (Spec.logit X (W s) (U s)) j : EReal) := by
  unfold out0_4
  refine View.canon_eq_of_allAt _ _ _ (cover0_4 _ _ _ _) ?_
  refine View.allAt_cons_unit _ _ _ _ _ (fun x e => ?_) <| View.allAt_cons_unit _ _ _ _ _ (fun x e => ?_) <|
    View.allAt_cons_unit _ _ _ _ _ (fun x e => ?_) <| View.allAt_nil _ _
  · obtain ⟨rfl, rfl⟩ := slab_eq (by decide) e
    exact (ValueIdx.shapeCast_ab_1ab_apply _ _ 0 j b).trans (prob2_at x0 x1 x2 b X W U hx hw hv j)
  · obtain ⟨rfl, rfl⟩ := slab_eq (by decide) e
    exact (ValueIdx.shapeCast_ab_1ab_apply _ _ 0 j b).trans (prob1_at x0 x1 x2 b X W U hx hw hv j)
  · obtain ⟨rfl, rfl⟩ := slab_eq (by decide) e
    exact (ValueIdx.shapeCast_ab_1ab_apply _ _ 0 j b).trans (prob0_at x0 x1 x2 b X W U hx hw hv j)

omit hv in
/-- The block of features, branch by branch. -/
theorem out3_at (s : Fin 3) (h : Fin 128) : out0_3 x0 x1 x2 (ix3 s b h) = (Spec.feat X (W s) h : EReal) := by
  unfold out0_3
  refine View.canon_eq_of_allAt _ _ _ (cover0_3 _ _ _ _) ?_
  refine View.allAt_cons_unit _ _ _ _ _ (fun x e => ?_) <| View.allAt_cons_unit _ _ _ _ _ (fun x e => ?_) <|
    View.allAt_cons_unit _ _ _ _ _ (fun x e => ?_) <| View.allAt_nil _ _
  · obtain ⟨rfl, rfl⟩ := slab_eq (by decide) e
    refine (pay20_at _ b h).trans ?_
    unfold k0_pay36 k0_pay31
    rw [ld_rows, ld_first]
    exact (pay19_at _ b h).trans (feats_at x0 x1 b X W hx hw 2 h)
  · obtain ⟨rfl, rfl⟩ := slab_eq (by decide) e
    refine (pay13_at _ b h).trans ?_
    unfold k0_pay31
    rw [ld_rows, ld_first]
    exact (pay12_at _ b h).trans (feats_at x0 x1 b X W hx hw 1 h)
  · obtain ⟨rfl, rfl⟩ := slab_eq (by decide) e
    refine (pay6_at _ _ b h).trans ?_
    rw [ld_rows, ld_first]
    exact (pay5_at _ _ b h).trans (feats_at x0 x1 b X W hx hw 0 h)

end block

end Cert.KernelIdeal.Val
end
-- ==== Proof.Hand.Values.lean ====
module

public import proofs.«01_k».proof.Proof.Hand.Spec

/-! The five results over real arguments, which both programs are read as. -/

@[expose] public section

noncomputable section

open Idealize.ShloMosaic

namespace Cert.Spec

/-- The rows and the weights of the three branches are these reals. -/
structure Reads (x : FVec Ideal ⟨2, ![16384, 256]⟩ .f32) (w1 w2 w3 : FVec Ideal ⟨2, ![256, 128]⟩ .f32)
    (v1 v2 v3 : FVec Ideal ⟨2, ![128, 1000]⟩ .f32) (X : Fin 16384 → Fin 256 → ℝ) (W : Fin 3 → Fin 256 → Fin 128 → ℝ)
    (U : Fin 3 → Fin 128 → Fin 1000 → ℝ) : Prop where
  /-- The rows. -/
  rows : ∀ r k, x (ix2 r k) = (X r k : EReal)
  /-- The first weights. -/
  first : ∀ s k h, (![w1, w2, w3] s) (ix2 k h) = (W s k h : EReal)
  /-- The second weights. -/
  second : ∀ s h j, (![v1, v2, v3] s) (ix2 h j) = (U s h j : EReal)

/-- Arguments of finite entries are reals. -/
theorem exists_reads (x : FVec Ideal ⟨2, ![16384, 256]⟩ .f32) (w1 w2 w3 : FVec Ideal ⟨2, ![256, 128]⟩ .f32)
    (v1 v2 v3 : FVec Ideal ⟨2, ![128, 1000]⟩ .f32) (hx : ∀ i, ∃ a : ℝ, x i = (a : EReal)) (hw1 : ∀ i, ∃ a : ℝ, w1 i = (a : EReal))
    (hw2 : ∀ i, ∃ a : ℝ, w2 i = (a : EReal)) (hw3 : ∀ i, ∃ a : ℝ, w3 i = (a : EReal)) (hv1 : ∀ i, ∃ a : ℝ, v1 i = (a : EReal))
    (hv2 : ∀ i, ∃ a : ℝ, v2 i = (a : EReal)) (hv3 : ∀ i, ∃ a : ℝ, v3 i = (a : EReal)) :
    ∃ X W U, Reads x w1 w2 w3 v1 v2 v3 X W U := by
  choose fx ex using hx
  choose f1 e1 using hw1
  choose f2 e2 using hw2
  choose f3 e3 using hw3
  choose g1 d1 using hv1
  choose g2 d2 using hv2
  choose g3 d3 using hv3
  refine ⟨fun r k => fx (ix2 r k), fun s k h => (![f1, f2, f3] s) (ix2 k h), fun s h j => (![g1, g2, g3] s) (ix2 h j),
    fun r k => ex _, fun s k h => ?_, fun s h j => ?_⟩
  · fin_cases s
    · exact e1 _
    · exact e2 _
    · exact e3 _
  · fin_cases s
    · exact d1 _
    · exact d2 _
    · exact d3 _

variable (X : Fin 16384 → Fin 256 → ℝ) (W : Fin 3 → Fin 256 → Fin 128 → ℝ) (U : Fin 3 → Fin 128 → Fin 1000 → ℝ)

/-- The class a branch predicts for a row. -/
def cls (r : Fin 16384) (s : Fin 3) : Fin (999 + 1) := Row.top (logit (X r) (W s) (U s))

/-- The probability a branch gives a class at a row. -/
def prb (r : Fin 16384) (s : Fin 3) (j : Fin (999 + 1)) : ℝ := Row.soft (logit (X r) (W s) (U s)) j

/-- The class voted for a row. -/
def voted (r : Fin 16384) : Fin (999 + 1) := Row.vote (cls X W U r 0) (cls X W U r 1) (cls X W U r 2)

/-- The average probability of a class at a row over the branches agreeing with the vote. -/
def agreed (r : Fin 16384) (j : Fin (999 + 1)) : ℝ :=
  Row.avg (cls X W U r 0) (cls X W U r 1) (cls X W U r 2) (prb X W U r 0 j) (prb X W U r 1 j) (prb X W U r 2 j)

/-- The mean probability of a class at a row. -/
def mean (r : Fin 16384) (j : Fin (999 + 1)) : ℝ := (prb X W U r 0 j + prb X W U r 1 j + prb X W U r 2 j) / 3

/-- The first result: the features. -/
def res0 : FVec Ideal ⟨3, ![16384, 3, 128]⟩ .f32 := fun i => (feat (X (i 0)) (W (i 1)) (i 2) : EReal)

/-- The second result: the probabilities. -/
def res1 : FVec Ideal ⟨3, ![16384, 3, 1000]⟩ .f32 := fun i => (prb X W U (i 0) (i 1) (i 2) : EReal)

/-- The third result: the votes. -/
def res2 : IVec ⟨1, ![16384]⟩ 32 := fun i => BitVec.ofNat 32 (voted X W U (i 0)).val

/-- The fourth result: the averages over the agreeing branches. -/
def res3 : FVec Ideal ⟨2, ![16384, 1000]⟩ .f32 := fun i => (agreed X W U (i 0) (i 1) : EReal)

/-- The fifth result: the means. -/
def res4 : FVec Ideal ⟨2, ![16384, 1000]⟩ .f32 := fun i => (mean X W U (i 0) (i 1) : EReal)

end Cert.Spec
end
-- ==== Proof.Hand.KerRun.lean ====
module

public import proofs.«01_k».proof.Proof.Hand.KerBlk
public import proofs.«01_k».proof.Proof.Hand.Values
public import Idealize.ShloMosaic.Lib.StableHlo.RunClose
public import Idealize.ShloMosaic.Lib.StableHlo.RunRead

/-! The kernel's result arrays after its run, over real arguments. -/

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

/-- Every window's block index at a grid point. -/
theorem idx : ∀ t : Fin cfg0.N, win0_0.index t = ![t.val, 0] ∧ win0_1.index t = ![0, 0] ∧ win0_2.index t = ![0, 0, 0]
    ∧ win0_3.index t = ![0, t.val, 0] ∧ win0_4.index t = ![0, 0, t.val] ∧ win0_5.index t = ![0, t.val]
    ∧ win0_6.index t = ![0, t.val] ∧ win0_7.index t = ![0, t.val] ∧ t.val < 64 :=
  (by decide +kernel : ∀ t : Fin grid0.N, _)

/-- Row `b` of point `t`'s block, among all rows. -/
def row (t : Fin cfg0.N) (b : Fin 256) : Fin 16384 := ⟨t.val * 256 + b.val, by
  have := (idx t).2.2.2.2.2.2.2.2
  omega⟩

variable (m : (ℓ : Loc nD τ sig) → Buf (Elt Ideal) ℓ) (c : Dev nD)

/-- A point's block of rows. -/
theorem rows_at (t : Fin cfg0.N) (b : Fin 256) (k : Fin 256) :
    iblk m c 0 t (ix2 b k) = m ((c : Thread nD τ).loc main_arg0) (ix2 (row t b) k) := by
  blk_ext [iblk, V, idx t, row]

/-- A point's block of first weights is the three branches' side by side. -/
theorem first_at (t : Fin cfg0.N) (k : Fin 256) (l : Fin 384) :
    iblk m c 1 t (ix2 k l) = V m c main_v0 (ix2 k l) := by
  blk_ext [iblk, idx t]

/-- A point's block of second weights is the three branches' stacked. -/
theorem second_at (t : Fin cfg0.N) (s : Fin 3) (j : Fin 1000) (h : Fin 128) :
    iblk m c 2 t (ix3 s j h) = V m c main_v7 (ix3 s j h) := by
  blk_ext [iblk, idx t]

/-- The three branches' first weights, side by side. -/
def beside (w1 w2 w3 : FVec Ideal S256x128 .f32) : FVec Ideal S256x384 .f32 :=
  concatenate S256x384 1 [⟨S256x128, w1⟩, ⟨S256x128, w2⟩, ⟨S256x128, w3⟩] concatenates_S256x128_S256x128_S256x128_S256x384_d1

/-- One branch's second weights, transposed, as a slab. -/
def slab (w : FVec Ideal S128x1000 .f32) : FVec Ideal S1x1000x128 .f32 :=
  broadcastInDim S1x1000x128 ![1, 2] bcast_S1000x128_S1x1000x128_1_2 (transpose S1000x128 [1, 0] w transposes_S128x1000_S1000x128_1_0)

/-- The three branches' second weights, stacked. -/
def stacked (w1 w2 w3 : FVec Ideal S128x1000 .f32) : FVec Ideal S3x1000x128 .f32 :=
  concatenate S3x1000x128 0 [⟨S1x1000x128, slab w1⟩, ⟨S1x1000x128, slab w2⟩, ⟨S1x1000x128, slab w3⟩]
    concatenates_S1x1000x128_S1x1000x128_S1x1000x128_S3x1000x128_d0

/-- The first weights the launch is given. -/
theorem firsts : V m c main_v0 = beside (m ((c : Thread nD τ).loc main_arg1)) (m ((c : Thread nD τ).loc main_arg5)) (m ((c : Thread nD τ).loc main_arg9)) := by
  simp only [V, V0, List.flatten_cons, List.flatten_nil, List.append_nil]
  after_reads_simp
  rfl

/-- The second weights the launch is given. -/
theorem seconds : V m c main_v7 = stacked (m ((c : Thread nD τ).loc main_arg3)) (m ((c : Thread nD τ).loc main_arg7)) (m ((c : Thread nD τ).loc main_arg11)) := by
  simp only [V, V0, List.flatten_cons, List.flatten_nil, List.append_nil]
  after_reads_simp
  rfl

/-- Reading the `n`-th of three runs of 128 entries laid end to end. -/
theorem third_of (a b d : Fin 128 → EReal) (n : ℕ) (s : Fin 3) (h : Fin 128) (hn : n = s.val * 128 + h.val)
    (p : ¬n < 128 → ¬n - 128 < 128 → n - 128 - 128 < 128) :
    (if e : n < 128 then a ⟨n, e⟩ else if e' : n - 128 < 128 then b ⟨n - 128, e'⟩ else d ⟨n - 128 - 128, p e e'⟩) = (![a, b, d] s) h := by
  have hh := h.isLt
  have hs := s.isLt
  obtain e | e | e : s.val = 0 ∨ s.val = 1 ∨ s.val = 2 := by omega
  · obtain rfl : s = 0 := Fin.ext e
    rw [dif_pos (by omega)]
    exact congrArg a (Fin.ext (by show n = h.val; omega))
  · obtain rfl : s = 1 := Fin.ext e
    rw [dif_neg (by omega), dif_pos (by omega)]
    exact congrArg b (Fin.ext (by show n - 128 = h.val; omega))
  · obtain rfl : s = 2 := Fin.ext e
    rw [dif_neg (by omega), dif_neg (by omega)]
    exact congrArg d (Fin.ext (by show n - 128 - 128 = h.val; omega))

/-- Branch `s`'s columns of the first weights side by side are its own. -/
theorem beside_at (w1 w2 w3 : FVec Ideal S256x128 .f32) (k : Fin 256) (s : Fin 3) (h : Fin 128) :
    beside w1 w2 w3 (ix2 k (lane s h)) = (![w1, w2, w3] s) (ix2 k h) := by
  pointwise [beside]
  refine (third_of (fun q => w1 (ix2 k q)) (fun q => w2 (ix2 k q)) (fun q => w3 (ix2 k q)) (lane s h).val s h rfl (fun _ _ => by have := (lane s h).isLt; omega)).trans ?_
  fin_cases s <;> rfl

/-- Branch `s`'s slab of the second weights stacked is its own, transposed. -/
theorem stacked_at (w1 w2 w3 : FVec Ideal S128x1000 .f32) (s : Fin 3) (j : Fin 1000) (h : Fin 128) :
    stacked w1 w2 w3 (ix3 s j h) = (![w1, w2, w3] s) (ix2 h j) := by
  pointwise [stacked, slab]
  fin_cases s <;> rfl

section layout

variable (X : Fin 16384 → Fin 256 → ℝ) (W : Fin 3 → Fin 256 → Fin 128 → ℝ) (U : Fin 3 → Fin 128 → Fin 1000 → ℝ)

/-- The features in the layout the kernel writes. -/
def fin3 : FVec Ideal S3x16384x128 .f32 := fun i => (Spec.feat (X (i 1)) (W (i 0)) (i 2) : EReal)

/-- The probabilities in the layout the kernel writes. -/
def fin4 : FVec Ideal S3x1000x16384 .f32 := fun i => (Spec.prb X W U (i 2) (i 0) (i 1) : EReal)

/-- The votes in the layout the kernel writes. -/
def fin5 : IVec S1x16384 32 := fun i => BitVec.ofNat 32 (Spec.voted X W U (i 1)).val

/-- The averages over the agreeing branches in the layout the kernel writes. -/
def fin6 : FVec Ideal S1000x16384 .f32 := fun i => (Spec.agreed X W U (i 1) (i 0) : EReal)

/-- The means in the layout the kernel writes. -/
def fin7 : FVec Ideal S1000x16384 .f32 := fun i => (Spec.mean X W U (i 1) (i 0) : EReal)

end layout

section real

variable (X : Fin 16384 → Fin 256 → ℝ) (W : Fin 3 → Fin 256 → Fin 128 → ℝ) (U : Fin 3 → Fin 128 → Fin 1000 → ℝ)
  (hr : Spec.Reads (m ((c : Thread nD τ).loc main_arg0)) (m ((c : Thread nD τ).loc main_arg1)) (m ((c : Thread nD τ).loc main_arg5))
    (m ((c : Thread nD τ).loc main_arg9)) (m ((c : Thread nD τ).loc main_arg3)) (m ((c : Thread nD τ).loc main_arg7))
    (m ((c : Thread nD τ).loc main_arg11)) X W U)

include hr

/-- A point's rows are reals. -/
theorem hx_at (t : Fin cfg0.N) (b k : Fin 256) : iblk m c 0 t (ix2 b k) = (X (row t b) k : EReal) :=
  (rows_at m c t b k).trans (hr.rows _ k)

/-- A point's first weights are reals. -/
theorem hw_at (t : Fin cfg0.N) (s : Fin 3) (k : Fin 256) (h : Fin 128) : iblk m c 1 t (ix2 k (lane s h)) = (W s k h : EReal) :=
  (first_at m c t k (lane s h)).trans ((congrFun (firsts m c) _).trans ((beside_at _ _ _ k s h).trans (hr.first s k h)))

/-- A point's second weights are reals. -/
theorem hv_at (t : Fin cfg0.N) (s : Fin 3) (j : Fin 1000) (h : Fin 128) : iblk m c 2 t (ix3 s j h) = (U s h j : EReal) :=
  (second_at m c t s j h).trans ((congrFun (seconds m c) _).trans ((stacked_at _ _ _ s j h).trans (hr.second s h j)))

/-- The features after the run. -/
theorem final3 : (dats m 0 c).arrAt 3 (cfgs 0).N = fin3 X W := by
  refine (dats m 0 c).arrAt_eq_of_covers 3 _ (by decide +kernel) fun t _ y => ?_
  blk_simp
  rw [after0_3]
  obtain ⟨s, b, h, rfl⟩ : ∃ (s : Fin 3) (b : Fin 256) (h : Fin 128), y = ix3 s b h := ⟨y 0, y 1, y 2, eq_ix3 y⟩
  refine (out3_at _ _ _ b (X (row t b)) W (hx_at m c X W U hr t b) (hw_at m c X W U hr t) s h).trans (show _ = fin3 X W (ix3 s (row t b) h) from rfl) |>.trans ?_
  have e : (ix3 s (row t b) h : S3x16384x128.Idx) = (win0_3.blk t).view.emb (ix3 s b h) := by blk_ext [idx t, row]
  exact congrArg (fin3 X W) e

/-- The probabilities after the run. -/
theorem final4 : (dats m 0 c).arrAt 4 (cfgs 0).N = fin4 X W U := by
  refine (dats m 0 c).arrAt_eq_of_covers 4 _ (by decide +kernel) fun t _ y => ?_
  blk_simp
  rw [after0_4]
  obtain ⟨s, j, b, rfl⟩ : ∃ (s : Fin 3) (j : Fin 1000) (b : Fin 256), y = ix3 s j b := ⟨y 0, y 1, y 2, eq_ix3 y⟩
  refine (out4_at _ _ _ b (X (row t b)) W U (hx_at m c X W U hr t b) (hw_at m c X W U hr t) (hv_at m c X W U hr t) s j).trans (show _ = fin4 X W U (ix3 s j (row t b)) from rfl) |>.trans ?_
  have e : (ix3 s j (row t b) : S3x1000x16384.Idx) = (win0_4.blk t).view.emb (ix3 s j b) := by blk_ext [idx t, row]
  exact congrArg (fin4 X W U) e

/-- The votes after the run. -/
theorem final5 : (dats m 0 c).arrAt 5 (cfgs 0).N = fin5 X W U := by
  refine (dats m 0 c).arrAt_eq_of_covers 5 _ (by decide +kernel) fun t _ y => ?_
  blk_simp
  rw [after0_5]
  obtain ⟨b, rfl⟩ : ∃ (b : Fin 256), y = ix2 (0 : Fin 1) b := ⟨y 1, (eq_ix2 y).trans (congrArg (fun q : Fin 1 => ix2 q (y 1)) (Subsingleton.elim _ _))⟩
  refine (out5_at _ _ _ b (X (row t b)) W U (hx_at m c X W U hr t b) (hw_at m c X W U hr t) (hv_at m c X W U hr t)).trans (show _ = fin5 X W U (ix2 (0 : Fin 1) (row t b)) from rfl) |>.trans ?_
  have e : (ix2 (0 : Fin 1) (row t b) : S1x16384.Idx) = (win0_5.blk t).view.emb (ix2 (0 : Fin 1) b) := by blk_ext [idx t, row]
  exact congrArg (fin5 X W U) e

/-- The averages over the agreeing branches after the run. -/
theorem final6 : (dats m 0 c).arrAt 6 (cfgs 0).N = fin6 X W U := by
  refine (dats m 0 c).arrAt_eq_of_covers 6 _ (by decide +kernel) fun t _ y => ?_
  blk_simp
  rw [after0_6]
  obtain ⟨j, b, rfl⟩ : ∃ (j : Fin 1000) (b : Fin 256), y = ix2 j b := ⟨y 0, y 1, eq_ix2 y⟩
  refine (out6_at _ _ _ b (X (row t b)) W U (hx_at m c X W U hr t b) (hw_at m c X W U hr t) (hv_at m c X W U hr t) j).trans (show _ = fin6 X W U (ix2 j (row t b)) from rfl) |>.trans ?_
  have e : (ix2 j (row t b) : S1000x16384.Idx) = (win0_6.blk t).view.emb (ix2 j b) := by blk_ext [idx t, row]
  exact congrArg (fin6 X W U) e

/-- The means after the run. -/
theorem final7 : (dats m 0 c).arrAt 7 (cfgs 0).N = fin7 X W U := by
  refine (dats m 0 c).arrAt_eq_of_covers 7 _ (by decide +kernel) fun t _ y => ?_
  blk_simp
  rw [after0_7]
  obtain ⟨j, b, rfl⟩ : ∃ (j : Fin 1000) (b : Fin 256), y = ix2 j b := ⟨y 0, y 1, eq_ix2 y⟩
  refine (out7_at _ _ _ b (X (row t b)) W U (hx_at m c X W U hr t b) (hw_at m c X W U hr t) (hv_at m c X W U hr t) j).trans (show _ = fin7 X W U (ix2 j (row t b)) from rfl) |>.trans ?_
  have e : (ix2 j (row t b) : S1000x16384.Idx) = (win0_7.blk t).view.emb (ix2 j b) := by blk_ext [idx t, row]
  exact congrArg (fin7 X W U) e

end real

/-- The arrays of the windows are distinct. -/
theorem arr_inj : Function.Injective (Pipeline.arrRef spec0) := by
  intro a b; fin_cases a <;> fin_cases b <;> intro h <;> first | rfl | exact absurd h (by decide)

/-- The first result turns the features of the region around. -/
theorem tail9 : Pipeline.afterTail₀ cfgs (dats m) 0 (V0 m) [hostOps1] c main_v9 = transpose S16384x3x128 [1, 0, 2] ((dats m 0 c).arrAt 3 (cfgs 0).N : FVec Ideal S3x16384x128 .f32) transposes_S3x16384x128_S16384x3x128_1_0_2 := by
  rw [← Pipeline.withArrays_arr spec0 arr_inj c (V0 m c) (fun w => (dats m 0 c).arrAt w (cfgs 0).N) 3]
  simp only [Pipeline.afterTail₀, hostOps1, List.flatten_cons, List.flatten_nil, List.append_nil]
  after_reads_simp

/-- The second result turns the probabilities of the region around. -/
theorem tail10 : Pipeline.afterTail₀ cfgs (dats m) 0 (V0 m) [hostOps1] c main_v10 = transpose S16384x3x1000 [2, 0, 1] ((dats m 0 c).arrAt 4 (cfgs 0).N : FVec Ideal S3x1000x16384 .f32) transposes_S3x1000x16384_S16384x3x1000_2_0_1 := by
  rw [← Pipeline.withArrays_arr spec0 arr_inj c (V0 m c) (fun w => (dats m 0 c).arrAt w (cfgs 0).N) 4]
  simp only [Pipeline.afterTail₀, hostOps1, List.flatten_cons, List.flatten_nil, List.append_nil]
  after_reads_simp

/-- The third result flattens the votes of the region. -/
theorem tail13 : Pipeline.afterTail₀ cfgs (dats m) 0 (V0 m) [hostOps1] c main_v13 = shapeCast S16384 ((dats m 0 c).arrAt 5 (cfgs 0).N : IVec S1x16384 32) shapeCasts_S1x16384_S16384 := by
  rw [← Pipeline.withArrays_arr spec0 arr_inj c (V0 m c) (fun w => (dats m 0 c).arrAt w (cfgs 0).N) 5]
  simp only [Pipeline.afterTail₀, hostOps1, List.flatten_cons, List.flatten_nil, List.append_nil]
  after_reads_simp
  rfl

/-- The fourth result turns the averages of the region around. -/
theorem tail11 : Pipeline.afterTail₀ cfgs (dats m) 0 (V0 m) [hostOps1] c main_v11 = transpose S16384x1000 [1, 0] ((dats m 0 c).arrAt 6 (cfgs 0).N : FVec Ideal S1000x16384 .f32) transposes_S1000x16384_S16384x1000_1_0 := by
  rw [← Pipeline.withArrays_arr spec0 arr_inj c (V0 m c) (fun w => (dats m 0 c).arrAt w (cfgs 0).N) 6]
  simp only [Pipeline.afterTail₀, hostOps1, List.flatten_cons, List.flatten_nil, List.append_nil]
  after_reads_simp

/-- The fifth result turns the means of the region around. -/
theorem tail12 : Pipeline.afterTail₀ cfgs (dats m) 0 (V0 m) [hostOps1] c main_v12 = transpose S16384x1000 [1, 0] ((dats m 0 c).arrAt 7 (cfgs 0).N : FVec Ideal S1000x16384 .f32) transposes_S1000x16384_S16384x1000_1_0 := by
  rw [← Pipeline.withArrays_arr spec0 arr_inj c (V0 m c) (fun w => (dats m 0 c).arrAt w (cfgs 0).N) 7]
  simp only [Pipeline.afterTail₀, hostOps1, List.flatten_cons, List.flatten_nil, List.append_nil]
  after_reads_simp

section turned

variable (X : Fin 16384 → Fin 256 → ℝ) (W : Fin 3 → Fin 256 → Fin 128 → ℝ) (U : Fin 3 → Fin 128 → Fin 1000 → ℝ)

/-- The features turned around are the first result. -/
theorem turn3 : transpose S16384x3x128 [1, 0, 2] (fin3 X W) transposes_S3x16384x128_S16384x3x128_1_0_2 = Spec.res0 X W := by
  funext i
  obtain ⟨r, s, h, rfl⟩ : ∃ (r : Fin 16384) (s : Fin 3) (h : Fin 128), i = ix3 r s h := ⟨i 0, i 1, i 2, eq_ix3 i⟩
  pointwise []
  rfl

/-- The probabilities turned around are the second result. -/
theorem turn4 : transpose S16384x3x1000 [2, 0, 1] (fin4 X W U) transposes_S3x1000x16384_S16384x3x1000_2_0_1 = Spec.res1 X W U := by
  funext i
  obtain ⟨r, s, j, rfl⟩ : ∃ (r : Fin 16384) (s : Fin 3) (j : Fin 1000), i = ix3 r s j := ⟨i 0, i 1, i 2, eq_ix3 i⟩
  pointwise []
  rfl

/-- The votes flattened are the third result. -/
theorem turn5 : shapeCast S16384 (fin5 X W U) shapeCasts_S1x16384_S16384 = Spec.res2 X W U := by
  funext i
  obtain ⟨r, rfl⟩ : ∃ (r : Fin 16384), i = ix1 r := ⟨i 0, eq_ix1 i⟩
  pointwise []
  rfl

/-- The averages turned around are the fourth result. -/
theorem turn6 : transpose S16384x1000 [1, 0] (fin6 X W U) transposes_S1000x16384_S16384x1000_1_0 = Spec.res3 X W U := by
  funext i
  obtain ⟨r, j, rfl⟩ : ∃ (r : Fin 16384) (j : Fin 1000), i = ix2 r j := ⟨i 0, i 1, eq_ix2 i⟩
  pointwise []
  rfl

/-- The means turned around are the fifth result. -/
theorem turn7 : transpose S16384x1000 [1, 0] (fin7 X W U) transposes_S1000x16384_S16384x1000_1_0 = Spec.res4 X W U := by
  funext i
  obtain ⟨r, j, rfl⟩ : ∃ (r : Fin 16384) (j : Fin 1000), i = ix2 r j := ⟨i 0, i 1, eq_ix2 i⟩
  pointwise []
  rfl

end turned

/-- The kernel runs, leaving its five results at their values over the reals its arguments hold. -/
theorem run (ρ : Dev nD → PrngReg) (X : Dev nD → Fin 16384 → Fin 256 → ℝ) (W : Dev nD → Fin 3 → Fin 256 → Fin 128 → ℝ)
    (U : Dev nD → Fin 3 → Fin 128 → Fin 1000 → ℝ)
    (hr : ∀ c : Dev nD, Spec.Reads (m ((c : Thread nD τ).loc main_arg0)) (m ((c : Thread nD τ).loc main_arg1)) (m ((c : Thread nD τ).loc main_arg5))
      (m ((c : Thread nD τ).loc main_arg9)) (m ((c : Thread nD τ).loc main_arg3)) (m ((c : Thread nD τ).loc main_arg7))
      (m ((c : Thread nD τ).loc main_arg11)) (X c) (W c) (U c)) :
    θ_run defs (onTc (τ := τ) (main (F := Ideal))) ⟨m, fun _ => 0, ρ⟩ fun r => ∀ c : Dev nD,
      r.2.mem ((c.tc : Thread nD τ).loc main_v9) = Spec.res0 (X c) (W c)
      ∧ r.2.mem ((c.tc : Thread nD τ).loc main_v10) = Spec.res1 (X c) (W c) (U c)
      ∧ r.2.mem ((c.tc : Thread nD τ).loc main_v13) = Spec.res2 (X c) (W c) (U c)
      ∧ r.2.mem ((c.tc : Thread nD τ).loc main_v11) = Spec.res3 (X c) (W c) (U c)
      ∧ r.2.mem ((c.tc : Thread nD τ).loc main_v12) = Spec.res4 (X c) (W c) (U c) := by
  run_from Gen.run_main m ρ
  · exact (tail9 m c).trans ((congrArg (fun a => transpose S16384x3x128 [1, 0, 2] a transposes_S3x16384x128_S16384x3x128_1_0_2)
      (final3 m c _ _ _ (hr c))).trans (turn3 _ _))
  · exact (tail10 m c).trans ((congrArg (fun a => transpose S16384x3x1000 [2, 0, 1] a transposes_S3x1000x16384_S16384x3x1000_2_0_1)
      (final4 m c _ _ _ (hr c))).trans (turn4 _ _ _))
  · exact (tail13 m c).trans ((congrArg (fun a => shapeCast S16384 a shapeCasts_S1x16384_S16384)
      (final5 m c _ _ _ (hr c))).trans (turn5 _ _ _))
  · exact (tail11 m c).trans ((congrArg (fun a => transpose S16384x1000 [1, 0] a transposes_S1000x16384_S16384x1000_1_0)
      (final6 m c _ _ _ (hr c))).trans (turn6 _ _ _))
  · exact (tail12 m c).trans ((congrArg (fun a => transpose S16384x1000 [1, 0] a transposes_S1000x16384_S16384x1000_1_0)
      (final7 m c _ _ _ (hr c))).trans (turn7 _ _ _))

end Cert.KernelIdeal.Val
end
-- ==== Proof.Hand.RefDefs.lean ====
module

public import proofs.«01_k».proof.Defs
public import proofs.«01_k».proof.Proof.Gen.ReferenceIdeal
public import Idealize.ShloMosaic.Lib.Claim
public import Idealize.ShloMosaic.Lib.StableHlo.Run
public import Idealize.ShloMosaic.Lib.StableHlo.RunHlo
public import Idealize.ShloMosaic.Lib.Tactic

/-! The reference's steps as named whole-array functions. -/

@[expose] public section

set_option maxRecDepth 65536

noncomputable section

open Idealize.ShloMosaic Idealize.ShloMosaic.TcCoe Idealize.SL.Sem

namespace Cert.ReferenceIdeal.Val

open Cert.ReferenceIdeal Facts₀ Facts

/-- One branch's features: the rows times the weights, plus the bias, clamped below at zero. -/
def feat (x : FVec Ideal S16384x256 .f32) (w : FVec Ideal S256x128 .f32) (b : FVec Ideal S128 .f32) :
    FVec Ideal S16384x128 .f32 :=
  maximumf
    (addf (Host.dotGeneral dot_S16384x256_S256x128_S16384x128_1_0_0_1_n_n none x w)
      (broadcastInDim S16384x128 ![0, 1] bcast_S1x128_S16384x128_0_1 (broadcastInDim S1x128 ![1] bcast_S128_S1x128_1 b)))
    (broadcastInDim S16384x128 ![] bcast_S_S16384x128 (constant S_ .f32 0x00000000#32))

/-- One branch's scaled logits. -/
def logit (f : FVec Ideal S16384x128 .f32) (w : FVec Ideal S128x1000 .f32) (b : FVec Ideal S1000 .f32) :
    FVec Ideal S16384x1000 .f32 :=
  mulf
    (addf (Host.dotGeneral dot_S16384x128_S128x1000_S16384x1000_1_0_0_1_n_n none f w)
      (broadcastInDim S16384x1000 ![0, 1] bcast_S1x1000_S16384x1000_0_1 (broadcastInDim S1x1000 ![1] bcast_S1000_S1x1000_1 b)))
    (broadcastInDim S16384x1000 ![] bcast_S_S16384x1000 (constant S_ .f32 0x3F800000#32))

/-- The largest entry of every row. -/
def rowMax (l : FVec Ideal S16384x1000 .f32) : FVec Ideal S16384 .f32 :=
  Host.reduce FloatOps.maximumf l (constant S_ .f32 0xFF800000#32) reducesTo_S16384x1000_S16384_d1 h_S_

/-- The largest entry of every row, compared with minus infinity once more. -/
def rowTop (l : FVec Ideal S16384x1000 .f32) : FVec Ideal S16384 .f32 :=
  maximumf (broadcastInDim S16384 ![] bcast_S_S16384 (constant S_ .f32 0xFF800000#32)) (rowMax l)

/-- The sum of every row. -/
def rowSum (l : FVec Ideal S16384x1000 .f32) : FVec Ideal S16384 .f32 :=
  Host.reduceAdd l (constant S_ .f32 0x00000000#32) reducesTo_S16384x1000_S16384_d1 h_S_

/-- The exponentials of the logits less their row's maximum. -/
def expo (l : FVec Ideal S16384x1000 .f32) : FVec Ideal S16384x1000 .f32 :=
  Host.exp (subf l
    (broadcastInDim S16384x1000 ![0, 1] bcast_S16384x1_S16384x1000_0_1
      (broadcastInDim S16384x1 ![0] bcast_S16384_S16384x1_0
        (rowTop l))))

/-- The softmax of the logits along the classes. -/
def prob (l : FVec Ideal S16384x1000 .f32) : FVec Ideal S16384x1000 .f32 :=
  Host.divf (expo l)
    (broadcastInDim S16384x1000 ![0, 1] bcast_S16384x1_S16384x1000_0_1
      (broadcastInDim S16384x1 ![0] bcast_S16384_S16384x1_0 (rowSum (expo l))))

/-- The class of the largest probability of every row. -/
def pred (p : FVec Ideal S16384x1000 .f32) : IVec S16384 32 :=
  fun j => (Host.argReduce reducer_argmax_f32_i32 p (iotaInDim S16384x1000 32 1) (constant S_ .f32 0xFF800000#32)
    (constantI S_ 32 0#32) reducesTo_S16384x1000_S16384_d1 h_S_ j).2

/-- One at the predicted class of every row, zero elsewhere. -/
def oneHot (p : IVec S16384 32) : IVec S16384x1000 32 :=
  extui 32 (cmpi .eq
    (broadcastInDim S16384x1000 ![0, 1] bcast_S16384x1_S16384x1000_0_1 (broadcastInDim S16384x1 ![0] bcast_S16384_S16384x1_0 p))
    (broadcastInDim S16384x1000 ![0, 1] bcast_S1x1000_S16384x1000_0_1 (iotaInDim S1x1000 32 1))) natLt_1_32

/-- How many of the three predictions name each class. -/
def hist (p1 p2 p3 : IVec S16384 32) : IVec S16384x1000 32 :=
  addi (addi (oneHot p1) (oneHot p2)) (oneHot p3)

/-- The class named most often. -/
def top (h : IVec S16384x1000 32) : IVec S16384 32 :=
  fun j => (Host.reduce2 reducer_argmax_i32_i32 h (iotaInDim S16384x1000 32 1) (constantI S_ 32 2147483648#32)
    (constantI S_ 32 0#32) reducesTo_S16384x1000_S16384_d1 h_S_ j).2

/-- The index of a class, a negative one wrapped, as the gather takes it. -/
def wrapped (i : IVec S16384x1 32) : IVec S16384x1x1 32 :=
  shapeCast S16384x1x1
    (select (cmpi .slt i (broadcastInDim S16384x1 ![] bcast_S_S16384x1 (constantI S_ 32 0#32)))
      (addi i (broadcastInDim S16384x1 ![] bcast_S_S16384x1 (constantI S_ 32 1000#32))) i)
    shapeCasts_S16384x1_S16384x1x1

/-- Whether an index names a class. -/
def inBounds (i : IVec S16384x1x1 32) : IVec S16384x1x1 1 :=
  andi
    (cmpi .sge i (broadcastInDim S16384x1x1 ![] bcast_S_S16384x1x1 (constantI S_ 32 0#32)))
    (cmpi .sle i
      (broadcastInDim S16384x1x1 ![0, 1, 2] bcast_S1x1x1_S16384x1x1_0_1_2
        (broadcastInDim S1x1x1 ![2] bcast_S1_S1x1x1_2 (constantI S1 32 999#32))))

/-- The conjunction of the bits of every row. -/
def allBits (b : IVec S16384x1x1 1) : IVec S16384x1 1 :=
  Host.reduce IntOp.andi b (constantI S_ 1 1#1) reducesTo_S16384x1x1_S16384x1_d2 h_S_

/-- The entry of every row of `h` at that row's clamped index. -/
def gathered (h : IVec S16384x1000 32) (i : IVec S16384x1x1 32) : IVec S16384x1 32 :=
  Host.gather gather_S16384x1000_S16384x1x1_S16384x1_n_1_0_0_1_2_11 h i

/-- The entry of every row of `h` at that row's index. -/
def taken (h : IVec S16384x1000 32) (i : IVec S16384x1 32) : IVec S16384x1 32 :=
  select (allBits (inBounds (wrapped i))) (gathered h (wrapped i))
    (broadcastInDim S16384x1 ![] bcast_S_S16384x1 (constantI S_ 32 2147483648#32))

/-- How often each row names the class `t` has there. -/
def votesAt (h : IVec S16384x1000 32) (t : IVec S16384 32) : IVec S16384 32 :=
  shapeCast S16384 (taken h (broadcastInDim S16384x1 ![0] bcast_S16384_S16384x1_0 t)) shapeCasts_S16384x1_S16384

/-- How often the class named most often is named. -/
def votes (h : IVec S16384x1000 32) : IVec S16384 32 := votesAt h (top h)

/-- The class `t` where it is named twice at least, `p3` elsewhere. -/
def valueAt (n p3 t : IVec S16384 32) : IVec S16384 32 :=
  select (cmpi .slt n (broadcastInDim S16384 ![] bcast_S_S16384 (constantI S_ 32 2#32))) p3 t

/-- The voted class: the one named most often if it is named twice at least, the third branch's otherwise. -/
def value (h : IVec S16384x1000 32) (p3 : IVec S16384 32) : IVec S16384 32 := valueAt (votes h) p3 (top h)

/-- `a` on the rows whose prediction `p` is the voted class `v`, `b` on the others. -/
def onVote (p v : IVec S16384 32) (a b : FVec Ideal S16384x1000 .f32) : FVec Ideal S16384x1000 .f32 :=
  select (broadcastInDim S16384x1000 ![0, 1] bcast_S16384x1_S16384x1000_0_1
    (broadcastInDim S16384x1 ![0] bcast_S16384_S16384x1_0 (cmpi .eq p v))) a b

/-- The sum of the voting branches' probabilities, over their number. -/
def avgC (o1 o2 o3 : FVec Ideal S16384x1000 .f32) (p1 p2 p3 v n : IVec S16384 32) : FVec Ideal S16384x1000 .f32 :=
  let a3 := onVote p3 v o3 (broadcastInDim S16384x1000 ![] bcast_S_S16384x1000 (constant S_ .f32 0x00000000#32))
  let a2 := onVote p2 v (addf o2 a3) a3
  let a1 := onVote p1 v (addf o1 a2) a2
  Host.divf a1 (broadcastInDim S16384x1000 ![0, 1] bcast_S16384x1_S16384x1000_0_1
    (sitofp .f32 (broadcastInDim S16384x1 ![0] bcast_S16384_S16384x1_0 n)))

/-- The mean of the three branches' probabilities. -/
def avgP (o1 o2 o3 : FVec Ideal S16384x1000 .f32) : FVec Ideal S16384x1000 .f32 :=
  Host.divf (addf (addf o1 o2) o3)
    (broadcastInDim S16384x1000 ![] bcast_S_S16384x1000 (constant S_ .f32 0x40400000#32))

/-- The three branches' features, stacked per row. -/
def stackF (f1 f2 f3 : FVec Ideal S16384x128 .f32) : FVec Ideal S16384x3x128 .f32 :=
  concatenate S16384x3x128 1
    [⟨S16384x1x128, broadcastInDim S16384x1x128 ![0, 2] bcast_S16384x128_S16384x1x128_0_2 f1⟩,
     ⟨S16384x1x128, broadcastInDim S16384x1x128 ![0, 2] bcast_S16384x128_S16384x1x128_0_2 f2⟩,
     ⟨S16384x1x128, broadcastInDim S16384x1x128 ![0, 2] bcast_S16384x128_S16384x1x128_0_2 f3⟩]
    concatenates_S16384x1x128_S16384x1x128_S16384x1x128_S16384x3x128_d1

/-- The three branches' probabilities, stacked per row. -/
def stackO (f1 f2 f3 : FVec Ideal S16384x1000 .f32) : FVec Ideal S16384x3x1000 .f32 :=
  concatenate S16384x3x1000 1
    [⟨S16384x1x1000, broadcastInDim S16384x1x1000 ![0, 2] bcast_S16384x1000_S16384x1x1000_0_2 f1⟩,
     ⟨S16384x1x1000, broadcastInDim S16384x1x1000 ![0, 2] bcast_S16384x1000_S16384x1x1000_0_2 f2⟩,
     ⟨S16384x1x1000, broadcastInDim S16384x1x1000 ![0, 2] bcast_S16384x1000_S16384x1x1000_0_2 f3⟩]
    concatenates_S16384x1x1000_S16384x1x1000_S16384x1x1000_S16384x3x1000_d1

end Cert.ReferenceIdeal.Val
end
-- ==== Proof.Hand.Best.lean ====
module

public import proofs.«01_k».proof.Defs
public import proofs.«01_k».proof.Proof.Gen.ReferenceIdeal
public import proofs.«01_k».proof.Proof.Hand.Row
public import Idealize.ShloMosaic.PureOps.Ideal.Laws
public import Idealize.ShloMosaic.Lib.StableHlo.Predicate

/-! What the two pair reductions of the reference choose: the largest value, and of equal values the smallest position. -/

@[expose] public section

noncomputable section

namespace Cert.Best

open Idealize.ShloMosaic

variable {α K : Type} [LinearOrder K]

/-- A pair `q` is no better than `p`: its value is smaller, or equal with no smaller position. -/
def Le (κ : α → K) (q p : α × BitVec 32) : Prop := κ q.1 < κ p.1 ∨ (κ q.1 = κ p.1 ∧ p.2.toInt ≤ q.2.toInt)

/-- A pair is no better than itself. -/
theorem le_refl (κ : α → K) (p : α × BitVec 32) : Le κ p p := .inr ⟨rfl, _root_.le_refl _⟩

/-- Being no better is transitive. -/
theorem le_trans {κ : α → K} {p q r : α × BitVec 32} (h : Le κ p q) (g : Le κ q r) : Le κ p r := by
  rcases h with h | ⟨h, h'⟩ <;> rcases g with g | ⟨g, g'⟩
  · exact .inl (h.trans g)
  · exact .inl (g ▸ h)
  · exact .inl (h ▸ g)
  · exact .inr ⟨h.trans g, g'.trans h'⟩

/-- A fold that keeps one of two pairs, no worse than either, ends at one of its pairs, no worse than any. -/
theorem foldl_best {κ : α → K} {f : α × BitVec 32 → α × BitVec 32 → α × BitVec 32}
    (hf : ∀ a b, (f a b = a ∨ f a b = b) ∧ Le κ a (f a b) ∧ Le κ b (f a b)) (L : List (α × BitVec 32)) (a : α × BitVec 32) :
    (L.foldl f a = a ∨ L.foldl f a ∈ L) ∧ Le κ a (L.foldl f a) ∧ ∀ q ∈ L, Le κ q (L.foldl f a) := by
  induction L generalizing a with
  | nil => exact ⟨.inl rfl, le_refl κ a, by simp⟩
  | cons b L ih =>
    obtain ⟨h1, h2, h3⟩ := ih (f a b)
    obtain ⟨g1, g2, g3⟩ := hf a b
    rw [List.foldl_cons]
    refine ⟨?_, le_trans g2 h2, ?_⟩
    · rcases h1 with h1 | h1
      · rcases g1 with g1 | g1
        · exact .inl (h1.trans g1)
        · exact .inr (List.mem_cons.2 (.inl (h1.trans g1)))
      · exact .inr (List.mem_cons_of_mem _ h1)
    · intro q hq
      rcases List.mem_cons.1 hq with rfl | hq
      · exact le_trans g3 h2
      · exact h3 q hq

/-- The reduction of a float row keeps one of two pairs, no worse than either. -/
theorem float_step (a b : Ideal .f32 × BitVec 32) :
    (Cert.ReferenceIdeal.reducer_argmax_f32_i32 (F := Ideal) a b = a ∨ Cert.ReferenceIdeal.reducer_argmax_f32_i32 (F := Ideal) a b = b)
      ∧ Le (fun v : Ideal .f32 => (v : EReal)) a (Cert.ReferenceIdeal.reducer_argmax_f32_i32 (F := Ideal) a b)
      ∧ Le (fun v : Ideal .f32 => (v : EReal)) b (Cert.ReferenceIdeal.reducer_argmax_f32_i32 (F := Ideal) a b) := by
  obtain ⟨a1, a2⟩ := a
  obtain ⟨b1, b2⟩ := b
  unfold Cert.ReferenceIdeal.reducer_argmax_f32_i32
  simp only [Ideal.cmpf_def, Ideal.cmp, ne_eq, not_true_eq_false, decide_false, Scalar.select, IntOp.ori, IntOp.andi, Le]
  by_cases h1 : b1 < a1
  · have h2 : a1 ≠ b1 := h1.ne'
    simp [h1, h2]
  · by_cases h2 : a1 = b1
    · subst h2
      by_cases h3 : a2.toInt < b2.toInt
      · simp [IntOp.cmpi, BitVec.slt, h3, h3.le]
      · simp [IntOp.cmpi, BitVec.slt, h3, not_lt.1 h3]
    · have h4 : a1 < b1 := lt_of_le_of_ne (not_lt.1 h1) h2
      simp [h1, h2, h4]

/-- The reduction of an integer row keeps one of two pairs, no worse than either. -/
theorem int_step (a b : BitVec 32 × BitVec 32) :
    (Cert.ReferenceIdeal.reducer_argmax_i32_i32 a b = a ∨ Cert.ReferenceIdeal.reducer_argmax_i32_i32 a b = b)
      ∧ Le BitVec.toInt a (Cert.ReferenceIdeal.reducer_argmax_i32_i32 a b)
      ∧ Le BitVec.toInt b (Cert.ReferenceIdeal.reducer_argmax_i32_i32 a b) := by
  obtain ⟨a1, a2⟩ := a
  obtain ⟨b1, b2⟩ := b
  unfold Cert.ReferenceIdeal.reducer_argmax_i32_i32
  simp only [IntOp.cmpi, ne_eq, not_true_eq_false, decide_false, Scalar.select, IntOp.ori, IntOp.andi, Le]
  by_cases h1 : b1.toInt < a1.toInt
  · have h2 : a1 ≠ b1 := fun h => absurd h1 (by rw [h]; exact lt_irrefl _)
    simp [BitVec.slt, h1, h2, beq_false_of_ne h2]
  · by_cases h2 : a1 = b1
    · subst h2
      by_cases h3 : a2.toInt < b2.toInt
      · simp [BitVec.slt, h3, h3.le]
      · simp [BitVec.slt, h3, not_lt.1 h3]
    · have h4 : a1.toInt < b1.toInt := lt_of_le_of_ne (not_lt.1 h1) fun h => h2 (BitVec.toInt_inj.1 h)
      simp [BitVec.slt, h1, h2, h4, beq_false_of_ne h2]

/-- A fold of a float row's pairs ends at the row's first largest position. -/
theorem float_fold (L : List (Ideal .f32 × BitVec 32)) (p : Fin 1000 → ℝ)
    (hL : ∀ q, q ∈ L ↔ ∃ k : Fin 1000, q = (((p k : ℝ) : EReal), BitVec.ofNat 32 k.val)) :
    (L.foldl (Cert.ReferenceIdeal.reducer_argmax_f32_i32 (F := Ideal)) ((⊥ : EReal), 0#32)).2
      = BitVec.ofNat 32 (Row.top (n := 999) p).val := by
  obtain ⟨h1, -, h3⟩ := foldl_best (κ := fun v : Ideal .f32 => (v : EReal)) float_step L ((⊥ : EReal), 0#32)
  generalize L.foldl (Cert.ReferenceIdeal.reducer_argmax_f32_i32 (F := Ideal)) ((⊥ : EReal), 0#32) = R at h1 h3 ⊢
  have hall : ∀ k : Fin 1000, Le (fun v : Ideal .f32 => (v : EReal)) (((p k : ℝ) : EReal), BitVec.ofNat 32 k.val) R :=
    fun k => h3 _ ((hL _).2 ⟨k, rfl⟩)
  rcases h1 with rfl | h1
  · rcases hall 0 with h | ⟨h, -⟩
    · exact absurd h not_lt_bot
    · exact absurd h (EReal.coe_ne_bot _)
  · obtain ⟨k, rfl⟩ := (hL _).1 h1
    have hk : Row.IsTop p k := fun j => by
      rcases hall j with h | ⟨h, h'⟩
      · exact .inl (EReal.coe_lt_coe_iff.1 h)
      · refine .inr ⟨EReal.coe_eq_coe_iff.1 h, ?_⟩
        change (BitVec.ofNat 32 k.val).toInt ≤ (BitVec.ofNat 32 j.val).toInt at h'
        have := j.isLt
        have := k.isLt
        rw [StableHlo.Predicate.toInt_ofNat_small _ (by omega), StableHlo.Predicate.toInt_ofNat_small _ (by omega)] at h'
        exact_mod_cast h'
    rw [Row.isTop_unique (Row.top_spec (n := 999) p) hk]

/-- A fold of a row of small counts ends at the row's first largest position. -/
theorem int_fold (L : List (BitVec 32 × BitVec 32)) (c : Fin 1000 → ℕ) (hc : ∀ k, c k < 2 ^ 31)
    (hL : ∀ q, q ∈ L ↔ ∃ k : Fin 1000, q = (BitVec.ofNat 32 (c k), BitVec.ofNat 32 k.val)) :
    (L.foldl Cert.ReferenceIdeal.reducer_argmax_i32_i32 (2147483648#32, 0#32)).2
      = BitVec.ofNat 32 (Row.top (n := 999) c).val := by
  obtain ⟨h1, -, h3⟩ := foldl_best (κ := BitVec.toInt) int_step L (2147483648#32, 0#32)
  generalize L.foldl Cert.ReferenceIdeal.reducer_argmax_i32_i32 (2147483648#32, 0#32) = R at h1 h3 ⊢
  have hall : ∀ k : Fin 1000, Le BitVec.toInt (BitVec.ofNat 32 (c k), BitVec.ofNat 32 k.val) R :=
    fun k => h3 _ ((hL _).2 ⟨k, rfl⟩)
  have hi : ∀ k, (BitVec.ofNat 32 (c k)).toInt = (c k : ℤ) := fun k => StableHlo.Predicate.toInt_ofNat_small _ (hc k)
  rcases h1 with rfl | h1
  · have e : (2147483648#32 : BitVec 32).toInt = -2147483648 := by decide
    rcases hall 0 with h | ⟨h, -⟩
    · change (BitVec.ofNat 32 (c 0)).toInt < (2147483648#32 : BitVec 32).toInt at h
      rw [hi, e] at h
      omega
    · change (BitVec.ofNat 32 (c 0)).toInt = (2147483648#32 : BitVec 32).toInt at h
      rw [hi, e] at h
      omega
  · obtain ⟨k, rfl⟩ := (hL _).1 h1
    have hk : Row.IsTop c k := fun j => by
      rcases hall j with h | ⟨h, h'⟩
      · change (BitVec.ofNat 32 (c j)).toInt < (BitVec.ofNat 32 (c k)).toInt at h
        rw [hi, hi] at h
        exact .inl (by exact_mod_cast h)
      · change (BitVec.ofNat 32 (c j)).toInt = (BitVec.ofNat 32 (c k)).toInt at h
        rw [hi, hi] at h
        refine .inr ⟨by exact_mod_cast h, ?_⟩
        change (BitVec.ofNat 32 k.val).toInt ≤ (BitVec.ofNat 32 j.val).toInt at h'
        have := j.isLt
        have := k.isLt
        rw [StableHlo.Predicate.toInt_ofNat_small _ (by omega), StableHlo.Predicate.toInt_ofNat_small _ (by omega)] at h'
        exact_mod_cast h'
    rw [Row.isTop_unique (Row.top_spec (n := 999) c) hk]

end Cert.Best
end
-- ==== Proof.Hand.Rows.lean ====
module

public import proofs.«01_k».proof.Proof.Hand.Axis
public import proofs.«01_k».proof.Proof.Hand.Best

/-! Row reductions of the reference over real rows, for any number of rows. -/

@[expose] public section

noncomputable section

open Idealize.ShloMosaic

namespace Cert.Rows

variable {n : Nat} {u : Shape}

/-- A row's maximum from minus infinity is its entry at its first largest position. -/
theorem max_row (l : FVec Ideal ⟨2, ![n, 1000]⟩ .f32) (h : (⟨2, ![n, 1000]⟩ : Shape).ReducesTo [1] ⟨1, ![n]⟩) (hu : 0 < u.numel)
    (r : Fin n) (g : Fin (999 + 1) → ℝ) (hl : ∀ j : Fin 1000, l (ix2 r j) = (g j : EReal)) :
    Host.reduce FloatOps.maximumf l (constant (F := Ideal) u .f32 0xFF800000#32) h hu (ix1 r) = (g (Row.top g) : EReal) := by
  rw [Axis.hostReduce_last]
  simp only [hl]
  have e : constant (F := Ideal) u .f32 0xFF800000#32 (Shape.Idx.first hu) = (⊥ : EReal) := Axis.ofBits_bot
  rw [e]
  exact Row.fold_max g

/-- The larger of a constant and a vector's entry. -/
theorem bound_row (w : BitVec 32) (z : FVec Ideal ⟨1, ![n]⟩ .f32) (h : (⟨0, ![]⟩ : Shape).BroadcastsInDim ⟨1, ![n]⟩ ![]) (r : Fin n) :
    maximumf (broadcastInDim ⟨1, ![n]⟩ ![] h (constant (F := Ideal) ⟨0, ![]⟩ .f32 w)) z (ix1 r) = max (Ideal.ofBits .f32 w) (z (ix1 r)) := rfl

/-- The second components of a family of pairs, read at one index. -/
theorem second {ι α β : Type} (f : ι → α × β) {t : ι → β} (e : t = fun j => (f j).2) {j : ι} {b : β} (h : (f j).2 = b) : t j = b := by
  subst e
  exact h

/-- The pattern of zero. -/
theorem ofBits_zero : Ideal.ofBits .f32 0x00000000#32 = 0 := by simp [Ideal.ofBits, Ideal.ieee]

/-- The position the reference's search over floats finds is the row's first largest one. -/
theorem pred_row (p : FVec Ideal ⟨2, ![n, 1000]⟩ .f32) (i : IVec ⟨2, ![n, 1000]⟩ 32) (z : FVec Ideal u .f32) (w : IVec u 32)
    (h : (⟨2, ![n, 1000]⟩ : Shape).ReducesTo [1] ⟨1, ![n]⟩) (hu : 0 < u.numel) (r : Fin n) (g : Fin (999 + 1) → ℝ)
    (hp : ∀ j : Fin 1000, p (ix2 r j) = (g j : EReal)) (hi : ∀ j : Fin 1000, i (ix2 r j) = BitVec.ofNat 32 j.val)
    (hz : z (Shape.Idx.first hu) = (⊥ : EReal)) (hw : w (Shape.Idx.first hu) = 0#32) :
    (Host.argReduce (Cert.ReferenceIdeal.reducer_argmax_f32_i32 (F := Ideal)) p i z w h hu (ix1 r)).2
      = BitVec.ofNat 32 (Row.top g).val := by
  rw [Ideal.argReduce_eq_reduce2, Host.reduce2_eq_foldl_fiber, hz, hw]
  refine Best.float_fold _ g fun q => ?_
  rw [Axis.mem_fiber]
  simp only [hp, hi]

/-- The position the reference's search over counts finds is the row's first largest one. -/
theorem top_row (c i : IVec ⟨2, ![n, 1000]⟩ 32) (z w : IVec u 32) (h : (⟨2, ![n, 1000]⟩ : Shape).ReducesTo [1] ⟨1, ![n]⟩)
    (hu : 0 < u.numel) (r : Fin n) (g : Fin (999 + 1) → ℕ) (hg : ∀ j, g j < 2 ^ 31)
    (hc : ∀ j : Fin 1000, c (ix2 r j) = BitVec.ofNat 32 (g j)) (hi : ∀ j : Fin 1000, i (ix2 r j) = BitVec.ofNat 32 j.val)
    (hz : z (Shape.Idx.first hu) = 2147483648#32) (hw : w (Shape.Idx.first hu) = 0#32) :
    (Host.reduce2 Cert.ReferenceIdeal.reducer_argmax_i32_i32 c i z w h hu (ix1 r)).2 = BitVec.ofNat 32 (Row.top g).val := by
  rw [Host.reduce2_eq_foldl_fiber, hz, hw]
  refine Best.int_fold _ g hg fun q => ?_
  rw [Axis.mem_fiber]
  simp only [hc, hi]

end Cert.Rows
end
-- ==== Proof.Hand.RefAt.lean ====
module

public import proofs.«01_k».proof.Proof.Hand.RefDefs
public import proofs.«01_k».proof.Proof.Hand.Axis
public import proofs.«01_k».proof.Proof.Hand.Rows
public import proofs.«01_k».proof.Proof.Hand.Spec
public import Idealize.ShloMosaic.Lib.Pointwise

/-! The reference's steps at an index, over real entries. -/

@[expose] public section

set_option maxRecDepth 16384

noncomputable section

open Idealize.ShloMosaic Idealize.ShloMosaic.TcCoe Idealize.SL.Sem

namespace Cert.ReferenceIdeal.Val

open Cert.ReferenceIdeal Facts₀ Facts

/-- A row's features. -/
theorem feat_at (x : FVec Ideal S16384x256 .f32) (w : FVec Ideal S256x128 .f32) (b : FVec Ideal S128 .f32) (r : Fin 16384) (h : Fin 128)
    (X : Fin 256 → ℝ) (W : Fin 256 → Fin 128 → ℝ) (hx : ∀ k, x (ix2 r k) = (X k : EReal)) (hw : ∀ k h, w (ix2 k h) = (W k h : EReal))
    (hb : b (ix1 h) = (0 : EReal)) : feat x w b (ix2 r h) = (Spec.feat X W h : EReal) := by
  pointwise [feat]
  simp only [hx, hw, hb]
  rw [Spec.sum_mul, add_zero, Spec.max_zero]; rfl

/-- A row's logits. -/
theorem logit_at (f : FVec Ideal S16384x128 .f32) (w : FVec Ideal S128x1000 .f32) (b : FVec Ideal S1000 .f32) (r : Fin 16384)
    (j : Fin 1000) (F : Fin 128 → ℝ) (W : Fin 128 → Fin 1000 → ℝ) (hf : ∀ k, f (ix2 r k) = (F k : EReal))
    (hw : ∀ k j, w (ix2 k j) = (W k j : EReal)) (hb : b (ix1 j) = (0 : EReal)) :
    logit f w b (ix2 r j) = ((∑ h, F h * W h j : ℝ) : EReal) := by
  pointwise [logit]
  simp only [hf, hw, hb]
  rw [Spec.sum_mul, add_zero]

/-- A row's largest logit. -/
theorem rowTop_at (l : FVec Ideal S16384x1000 .f32) (r : Fin 16384) (g : Fin (999 + 1) → ℝ) (hl : ∀ j : Fin 1000, l (ix2 r j) = (g j : EReal)) :
    rowTop l (ix1 r) = (g (Row.top g) : EReal) := by
  have h := Rows.max_row (n := 16384) (u := S_) l reducesTo_S16384x1000_S16384_d1 h_S_ r g hl
  have b := Rows.bound_row 0xFF800000#32 (rowMax l) bcast_S_S16384 r
  refine Eq.trans b ?_
  unfold rowMax
  rw [h, Axis.ofBits_bot]
  exact max_eq_right bot_le

/-- A row's exponentials. -/
theorem expo_at (l : FVec Ideal S16384x1000 .f32) (r : Fin 16384) (j : Fin 1000) (g : Fin (999 + 1) → ℝ)
    (hl : ∀ j : Fin 1000, l (ix2 r j) = (g j : EReal)) :
    expo l (ix2 r j) = ((Real.exp (g j - g (Row.top g)) : ℝ) : EReal) := by
  have h := rowTop_at l r g hl
  have e : expo l (ix2 r j) = Ideal.exp (l (ix2 r j) - rowTop l (ix1 r)) := by
    unfold expo
    generalize rowTop l = z
    pointwise []
  rw [e, h, hl, ← EReal.coe_sub, Ideal.exp_coe]

/-- A row's probabilities. -/
theorem prob_at (l : FVec Ideal S16384x1000 .f32) (r : Fin 16384) (j : Fin 1000) (g : Fin (999 + 1) → ℝ)
    (hl : ∀ j : Fin 1000, l (ix2 r j) = (g j : EReal)) : prob l (ix2 r j) = (Row.soft g j : EReal) := by
  have e : prob l (ix2 r j) = Ideal.div (expo l (ix2 r j)) (rowSum (expo l) (ix1 r)) := by
    unfold prob
    generalize expo l = e
    generalize rowSum e = z
    pointwise []
  have z : constant (F := Ideal) S_ .f32 0x00000000#32 (Shape.Idx.first h_S_) = (0 : EReal) := Rows.ofBits_zero
  have s : rowSum (expo l) (ix1 r) = _ + _ :=
    Axis.hostReduceAdd_last (n := 16384) (m := 1000) (u := S_) (expo l) _ reducesTo_S16384x1000_S16384_d1 h_S_ r
  rw [e, s, z, zero_add, expo_at l r j g hl]
  simp only [fun k => expo_at l r k g hl]
  exact Row.soft_div g j

/-- A row's predicted class. -/
theorem pred_at (p : FVec Ideal S16384x1000 .f32) (r : Fin 16384) (g : Fin (999 + 1) → ℝ)
    (hp : ∀ j : Fin 1000, p (ix2 r j) = (g j : EReal)) : pred p (ix1 r) = BitVec.ofNat 32 (Row.top g).val := by
  refine Rows.second (Host.argReduce reducer_argmax_f32_i32 p (iotaInDim S16384x1000 32 1) (constant S_ .f32 0xFF800000#32)
    (constantI S_ 32 0#32) reducesTo_S16384x1000_S16384_d1 h_S_) (by with_unfolding_all rfl) ?_
  exact Rows.pred_row (n := 16384) (u := S_) p (iotaInDim S16384x1000 32 1) (constant S_ .f32 0xFF800000#32) (constantI S_ 32 0#32)
    reducesTo_S16384x1000_S16384_d1 h_S_ r g hp (fun _ => rfl) Axis.ofBits_bot rfl

/-- Whether a row's predicted class is `j`, as a word. -/
theorem oneHot_at (p : IVec S16384 32) (r : Fin 16384) (j a : Fin 1000) (hp : p (ix1 r) = BitVec.ofNat 32 a.val) :
    oneHot p (ix2 r j) = BitVec.ofNat 32 (if a = j then 1 else 0) := by
  pointwise [oneHot]
  rw [hp, Row.cmpi_class]
  by_cases h : a = j <;> simp [h]

/-- How many of a row's three predictions name a class. -/
theorem hist_at (p1 p2 p3 : IVec S16384 32) (r : Fin 16384) (j a b c : Fin 1000) (h1 : p1 (ix1 r) = BitVec.ofNat 32 a.val)
    (h2 : p2 (ix1 r) = BitVec.ofNat 32 b.val) (h3 : p3 (ix1 r) = BitVec.ofNat 32 c.val) :
    hist p1 p2 p3 (ix2 r j) = BitVec.ofNat 32 (Row.count a b c j) := by
  show oneHot p1 (ix2 r j) + oneHot p2 (ix2 r j) + oneHot p3 (ix2 r j) = _
  rw [oneHot_at p1 r j a h1, oneHot_at p2 r j b h2, oneHot_at p3 r j c h3, ← BitVec.ofNat_add, ← BitVec.ofNat_add]; rfl

/-- A class is named three times at most. -/
theorem count_lt (a b c j : Fin 1000) : Row.count a b c j < 2 ^ 31 := by
  unfold Row.count
  split <;> split <;> split <;> norm_num

/-- The class a row's histogram is largest at. -/
theorem top_at (h : IVec S16384x1000 32) (r : Fin 16384) (a b c : Fin (999 + 1))
    (hh : ∀ j : Fin 1000, h (ix2 r j) = BitVec.ofNat 32 (Row.count a b c j)) :
    top h (ix1 r) = BitVec.ofNat 32 (Row.top (Row.count a b c)).val := by
  refine Rows.second (Host.reduce2 reducer_argmax_i32_i32 h (iotaInDim S16384x1000 32 1) (constantI S_ 32 2147483648#32)
    (constantI S_ 32 0#32) reducesTo_S16384x1000_S16384_d1 h_S_) (by with_unfolding_all rfl) ?_
  exact Rows.top_row (n := 16384) (u := S_) h (iotaInDim S16384x1000 32 1) (constantI S_ 32 2147483648#32) (constantI S_ 32 0#32)
    reducesTo_S16384x1000_S16384_d1 h_S_ r (Row.count a b c) (count_lt a b c) hh (fun _ => rfl) rfl rfl

/-- The gather reads a row at the index named for that row. -/
theorem gathered_at (h : IVec S16384x1000 32) (i : IVec S16384x1x1 32) (r : Fin 16384) (k : Fin 1000)
    (hi : i (ix3 r 0 0) = BitVec.ofNat 32 k.val) : gathered h i (ix2 r 0) = h (ix2 r k) := by
  unfold gathered Host.gather
  congr 1
  generalize hd : gather_S16384x1000_S16384x1x1_S16384x1_n_1_0_0_1_2_11 = d
  funext a
  apply Fin.ext
  have e : (BitVec.ofNat 32 k.val).toInt.toNat = k.val := by
    rw [StableHlo.Predicate.toInt_ofNat_small _ (by have := k.isLt; omega)]; rfl
  match a with
  | ⟨0, h0⟩ =>
    have hb : (⟨0, h0⟩ : Fin S16384x1000.rank) ∈ d.operandBatchingDims := by rw [← hd]; exact List.mem_singleton.mpr rfl
    simp only [GatherDims.operandIdx, GatherDims.start_batching _ _ _ _ hb,
      GatherDims.offCoord_eq_zero _ _ _ (fun h => ((d.mem_sKept _).1 h).2 hb), GatherDims.batchCoord, dif_pos hb]
    subst hd
    rw [Nat.zero_add, Nat.add_zero]
    unfold GatherDims.siCoord
    simp only [Fin.val_cast]
    rfl
  | ⟨1, h1⟩ =>
    have hb : (⟨1, h1⟩ : Fin S16384x1000.rank) ∉ d.operandBatchingDims := by rw [← hd]; simp [gather_S16384x1000_S16384x1x1_S16384x1_n_1_0_0_1_2_11]
    have hc : (⟨1, h1⟩ : Fin S16384x1000.rank) ∈ d.collapsedSliceDims := by rw [← hd]; exact List.mem_singleton.mpr rfl
    have hm : (⟨1, h1⟩ : Fin S16384x1000.rank) ∈ d.startIndexMap := by rw [← hd]; exact List.mem_singleton.mpr rfl
    simp only [GatherDims.operandIdx, GatherDims.batchCoord_eq_zero _ _ _ hb,
      GatherDims.offCoord_eq_zero _ _ _ (fun h => ((d.mem_sKept _).1 h).1 hc), GatherDims.start, dif_pos hm]
    have hi' : i (d.siIdx (ix2 r 0) ⟨d.startIndexMap.idxOf ⟨1, h1⟩, List.idxOf_lt_length_iff.2 hm⟩) = BitVec.ofNat 32 k.val := by
      rw [← hi]
      congr 1
      funext b
      apply Fin.ext
      subst hd
      match b with
      | ⟨0, _⟩ => rfl
      | ⟨1, _⟩ => rfl
      | ⟨2, _⟩ => rfl
    rw [hi', e]
    subst hd
    show min k.val (1000 - 1) + 0 + 0 = k.val
    have := k.isLt
    omega

/-- The conjunction of one bit is that bit. -/
theorem allBits_at (b : IVec S16384x1x1 1) (r : Fin 16384) (hb : b (ix3 r 0 0) = 1#1) : allBits b (ix2 r 0) = 1#1 := by
  have hr : S16384x1x1.Reduces [2] S16384x1 :=
    ⟨reducesTo_S16384x1x1_S16384x1_d2.1, Nat.succ_pos 1, reducesTo_S16384x1x1_S16384x1_d2.2⟩
  have hl : ∀ k : Fin 1, hr.lift (ix2 r 0) k = ix3 r 0 0 := fun k => by
    funext a
    match a with
    | ⟨0, _⟩ => rfl
    | ⟨1, _⟩ => rfl
    | ⟨2, _⟩ => exact Subsingleton.elim (α := Fin 1) _ _
  unfold allBits
  rw [Host.reduce_eq_fold, reducesTo_S16384x1x1_S16384x1_d2.drop_eq_drop hr, hr.fold_filter_drop_single]
  show (Finset.univ : Finset (Fin 1)).fold IntOp.andi (1#1) (fun k => b (hr.lift (ix2 r 0) k)) = 1#1
  have e : (fun k => b (hr.lift (ix2 r 0) k)) = fun _ : Fin 1 => 1#1 := funext fun k => (congrArg b (hl k)).trans hb
  rw [e]
  decide

/-- A column read as a vector. -/
theorem column_at (z : IVec S16384x1 32) (r : Fin 16384) : shapeCast S16384 z shapeCasts_S16384x1_S16384 (ix1 r) = z (ix2 r 0) := by
  pointwise []

/-- The entry of a row at that row's index, where the index names a class. -/
theorem taken_at (h : IVec S16384x1000 32) (i : IVec S16384x1 32) (r : Fin 16384) :
    taken h i (ix2 r 0)
      = Scalar.select (allBits (inBounds (wrapped i)) (ix2 r 0)) (gathered h (wrapped i) (ix2 r 0)) 2147483648#32 := by
  pointwise [taken]

/-- How often a row names the class `k`. -/
theorem votesAt_at (h : IVec S16384x1000 32) (t : IVec S16384 32) (r : Fin 16384) (k : Fin 1000)
    (ht : t (ix1 r) = BitVec.ofNat 32 k.val) : votesAt h t (ix1 r) = h (ix2 r k) := by
  have hk := k.isLt
  have hw : wrapped (broadcastInDim S16384x1 ![0] bcast_S16384_S16384x1_0 t) (ix3 r 0 0) = BitVec.ofNat 32 k.val := by
    pointwise [wrapped]
    rw [ht]
    have : IntOp.cmpi .slt (BitVec.ofNat 32 k.val) 0#32 = 0#1 := by
      have := (StableHlo.Predicate.slt_ofNat_iff k.val 0 (by omega) (by omega)).not.2 (by omega)
      exact (BitVec.eq_zero_or_eq_one _).resolve_right this
    rw [this]; rfl
  have hb : inBounds (wrapped (broadcastInDim S16384x1 ![0] bcast_S16384_S16384x1_0 t)) (ix3 r 0 0) = 1#1 := by
    generalize wrapped _ = w at hw ⊢
    pointwise [inBounds]
    rw [hw]
    have h1 : IntOp.cmpi .sge (BitVec.ofNat 32 k.val) 0#32 = 1#1 :=
      (StableHlo.Predicate.sle_ofNat_iff 0 k.val (by omega) (by omega)).2 (by omega)
    have h2 : IntOp.cmpi .sle (BitVec.ofNat 32 k.val) 999#32 = 1#1 :=
      (StableHlo.Predicate.sle_ofNat_iff k.val 999 (by omega) (by omega)).2 (by omega)
    rw [h1, h2]; rfl
  have e : votesAt h t (ix1 r) = taken h (broadcastInDim S16384x1 ![0] bcast_S16384_S16384x1_0 t) (ix2 r 0) := by
    exact column_at _ r
  rw [e, taken_at, allBits_at _ r hb, gathered_at h _ r k hw]
  exact if_pos rfl

/-- A row's voted class and the number of its votes. -/
theorem value_at (h : IVec S16384x1000 32) (p3 : IVec S16384 32) (r : Fin 16384) (a b c : Fin (999 + 1))
    (hh : ∀ j : Fin 1000, h (ix2 r j) = BitVec.ofNat 32 (Row.count a b c j)) (h3 : p3 (ix1 r) = BitVec.ofNat 32 c.val) :
    value h p3 (ix1 r) = BitVec.ofNat 32 (Row.vote a b c).val
      ∧ votes h (ix1 r) = BitVec.ofNat 32 (Row.count a b c (Row.vote a b c)) := by
  have ht := top_at h r a b c hh
  have hv : votes h (ix1 r) = BitVec.ofNat 32 (Row.count a b c (Row.top (Row.count a b c))) :=
    (votesAt_at h (top h) r _ ht).trans (hh _)
  obtain ⟨c1, c2⟩ := Row.count_top a b c
  refine ⟨?_, hv.trans (congrArg _ c2)⟩
  show Scalar.select (IntOp.cmpi .slt (votes h (ix1 r)) 2#32) (p3 (ix1 r)) (top h (ix1 r)) = _
  rw [hv, ht, h3, ← c1]
  have hlt := StableHlo.Predicate.slt_ofNat_iff (Row.count a b c (Row.top (Row.count a b c))) 2 (count_lt a b c _) (by omega)
  by_cases hc : Row.count a b c (Row.top (Row.count a b c)) < 2
  · rw [if_pos hc, show IntOp.cmpi .slt _ 2#32 = 1#1 from hlt.2 hc]; rfl
  · rw [if_neg hc]
    exact if_neg (hlt.not.2 hc)

/-- A row's average over the voting branches. -/
theorem avgC_at (o1 o2 o3 : FVec Ideal S16384x1000 .f32) (p1 p2 p3 v n : IVec S16384 32) (r : Fin 16384) (j : Fin 1000)
    (x y z : ℝ) (a b c : Fin 1000) (hx : o1 (ix2 r j) = (x : EReal)) (hy : o2 (ix2 r j) = (y : EReal)) (hz : o3 (ix2 r j) = (z : EReal))
    (h1 : p1 (ix1 r) = BitVec.ofNat 32 a.val) (h2 : p2 (ix1 r) = BitVec.ofNat 32 b.val) (h3 : p3 (ix1 r) = BitVec.ofNat 32 c.val)
    (hv : v (ix1 r) = BitVec.ofNat 32 (Row.vote a b c).val) (hn : n (ix1 r) = BitVec.ofNat 32 (Row.count a b c (Row.vote a b c))) :
    avgC o1 o2 o3 p1 p2 p3 v n (ix2 r j) = (Row.avg a b c x y z : EReal) := by
  pointwise [avgC, onVote]
  rw [hx, hy, hz, h1, h2, h3, hv, hn]
  exact Row.avg_reference a b c x y z

/-- A row's mean over the branches. -/
theorem avgP_at (o1 o2 o3 : FVec Ideal S16384x1000 .f32) (r : Fin 16384) (j : Fin 1000) (x y z : ℝ)
    (hx : o1 (ix2 r j) = (x : EReal)) (hy : o2 (ix2 r j) = (y : EReal)) (hz : o3 (ix2 r j) = (z : EReal)) :
    avgP o1 o2 o3 (ix2 r j) = (((x + y + z) / 3 : ℝ) : EReal) := by
  pointwise [avgP]
  rw [hx, hy, hz]
  exact Row.mean_reference x y z

/-- The stack of the features holds each branch's. -/
theorem stackF_at (o1 o2 o3 : FVec Ideal S16384x128 .f32) (r : Fin 16384) (k : Fin 3) (j : Fin 128) :
    stackF o1 o2 o3 (ix3 r k j) = (![o1, o2, o3] k) (ix2 r j) := by
  pointwise [stackF]
  fin_cases k <;> rfl

/-- The stack of the probabilities holds each branch's. -/
theorem stackO_at (o1 o2 o3 : FVec Ideal S16384x1000 .f32) (r : Fin 16384) (k : Fin 3) (j : Fin 1000) :
    stackO o1 o2 o3 (ix3 r k j) = (![o1, o2, o3] k) (ix2 r j) := by
  pointwise [stackO]
  fin_cases k <;> rfl

end Cert.ReferenceIdeal.Val
end
-- ==== Proof.Hand.RefOps.lean ====
module

public import proofs.«01_k».proof.Defs
public import proofs.«01_k».proof.Proof.Gen.ReferenceIdeal
public import proofs.«01_k».proof.Proof.Hand.RefDefs
public import Idealize.ShloMosaic.Lib.Claim
public import Idealize.ShloMosaic.Lib.StableHlo.Run
public import Idealize.ShloMosaic.Lib.StableHlo.RunHlo
public import Idealize.ShloMosaic.Lib.StableHlo.RunRead
public import Idealize.ShloMosaic.Lib.Pipeline.Frame
public import Idealize.ShloMosaic.Lib.Tactic

/-! The reference's line of operations, and what it leaves in a buffer read off one stretch of that line. -/

@[expose] public section

set_option maxRecDepth 65536

noncomputable section

open Idealize.ShloMosaic Idealize.ShloMosaic.TcCoe Idealize.SL.Sem Idealize.ShloMosaic.StableHlo

namespace Cert.ReferenceIdeal.Val

open Cert.ReferenceIdeal Facts₀ Facts

/-- The reference's operations in order, with the fact that its program is their line. -/
def line : { ops : List (HloOp τ sig (Elt Ideal)) // ∀ d, IsSeq (main (F := Ideal) d) ops } :=
  by
    apply Subtype.mk
    · hlo_seq

/-- The reference's operations in order. -/
def ops : List (HloOp τ sig (Elt Ideal)) := line.1

/-- The buffers the operations write, in order. -/
def written : List (Ref sig .tc) := [
    main_v0, main_v1, main_v2, main_v3, main_cst, main_v4, main_v5, main_v6, main_v7, main_v8, main_v9, main_cst_0, main_v10,
    main_v11, main_cst_1, main_v12, main_cst_2, main_v13, main_v14, main_v15, main_v16, main_v17, main_v18, main_cst_3,
    main_v19, main_v20, main_v21, main_v22, main_v23, main_v24, main_v25, main_v26, main_cst_4, main_v27, main_v28, main_v29,
    main_v30, main_v31, main_v32, main_cst_5, main_v33, main_v34, main_cst_6, main_v35, main_cst_7, main_v36, main_v37,
    main_v38, main_v39, main_v40, main_v41, main_cst_8, main_v42, main_v43, main_v44, main_v45, main_v46, main_v47, main_v48,
    main_v49, main_cst_9, main_v50, main_v51, main_v52, main_v53, main_v54, main_v55, main_cst_10, main_v56, main_v57,
    main_cst_11, main_v58, main_cst_12, main_v59, main_v60, main_v61, main_v62, main_v63, main_v64, main_cst_13, main_v65,
    main_v66, main_v67, main_v68, main_v69, main_v70, main_v71, main_v72, main_v73, main_v74, main_v75, main_v76,
    main_call0_v0, main_call0_cst, main_call0_c, main_call0_v1_0, main_v77, main_call1_v0, main_call1_cst, main_call1_c,
    main_call1_v1_0, main_v78, main_call2_v0, main_call2_cst, main_call2_c, main_call2_v1_0, main_v79, main_call3_v0,
    main_call3_v1, main_call3_v2, main_call3_v3, main_call3_v4, main_v80, main_call4_v0, main_call4_v1, main_call4_v2,
    main_call4_v3, main_call4_v4, main_v81, main_v82, main_call5_v0, main_call5_v1, main_call5_v2, main_call5_v3,
    main_call5_v4, main_v83, main_v84, main_call6_v0, main_call6_c, main_call6_c_0, main_call6_v1_0, main_v85, main_v86,
    main_call7_c, main_call7_v0, main_call7_v1, main_call7_c_0, main_call7_v2, main_call7_v3, main_call7_v4, main_call7_v5,
    main_call7_c_1, main_call7_c_2, main_call7_v6, main_call7_v7, main_call7_v8, main_call7_v9, main_call7_v10,
    main_call7_v11, main_call7_c_3, main_call7_v12, main_call7_v13, main_call7_c_4, main_call7_v14, main_v87, main_v88,
    main_c, main_v89, main_v90, main_v91, main_v92, main_v93, main_cst_14, main_v94, main_call9_v0, main_v95, main_v96,
    main_v97, main_v98, main_call10_v0, main_v99, main_v100, main_v101, main_v102, main_call11_v0, main_v103, main_v104,
    main_v105, main_v106, main_v107, main_v108, main_v109, main_cst_15, main_v110, main_v111]

/-- Every operation writes the one buffer listed for it. -/
theorem writes_eq : ops.map HloOp.writes = written.map fun w => {Proc.devRef (τ := τ) .tc w} := rfl

/-- The contents of the buffers after the whole line. -/
def fin (V : Valuation τ sig (Elt Ideal)) (r : Ref sig .tc) :=
  after ops V (Proc.devRef .tc r)

/-- The whole line is its first `n` operations and then the others. -/
theorem after_two (n : Nat) (V : Valuation τ sig (Elt Ideal)) : after ops V = after (ops.drop n) (upto ops V n) := by
  unfold upto
  rw [← after_append, List.take_append_drop]

/-- What the operations after the first `n` write. -/
theorem writes_drop (n : Nat) :
    (ops.drop n).map HloOp.writes = (written.drop n).map fun w => {Proc.devRef (τ := τ) .tc w} := by
  rw [List.map_drop, List.map_drop, writes_eq]

/-- A buffer not written after the first `n` operations holds at the end what it holds after them. -/
theorem kept (n : Nat) (r : Ref sig .tc) (hr : r ∉ written.drop n) (V : Valuation τ sig (Elt Ideal)) :
    upto ops V n (Proc.devRef .tc r) = fin V r := by
  rw [fin, after_two n]
  exact (after_unwritten _ (writes_drop n) hr _).symm

end Cert.ReferenceIdeal.Val
end
-- ==== Proof.Hand.RefEqs.lean ====
module

public import proofs.«01_k».proof.Defs
public import proofs.«01_k».proof.Proof.Gen.ReferenceIdeal
public import proofs.«01_k».proof.Proof.Hand.RefOps
public import Idealize.ShloMosaic.Lib.Claim
public import Idealize.ShloMosaic.Lib.StableHlo.Run
public import Idealize.ShloMosaic.Lib.StableHlo.RunHlo
public import Idealize.ShloMosaic.Lib.StableHlo.RunRead
public import Idealize.ShloMosaic.Lib.StableHlo.RunClose
public import Idealize.ShloMosaic.Lib.Pipeline.Frame
public import Idealize.ShloMosaic.Lib.Tactic

/-! Each of the reference's buffers that matter, after the run, from the buffers it is computed of. -/

@[expose] public section

set_option maxRecDepth 65536

noncomputable section

open Idealize.ShloMosaic Idealize.ShloMosaic.TcCoe Idealize.SL.Sem Idealize.ShloMosaic.StableHlo

namespace Cert.ReferenceIdeal.Val

open Cert.ReferenceIdeal Facts₀ Facts

variable (V : Valuation τ sig (Elt Ideal))

/-- A buffer not written after the first `j` operations, read off the operations from `i` to `j`. -/
theorem stretch (i j : Nat) (hij : i ≤ j) (r : Ref sig .tc) (hr : r ∉ written.drop j) :
    fin V r = after ((ops.take j).drop i) (upto ops V i) (Proc.devRef .tc r) := by
  rw [← kept j r hr V]
  unfold upto
  conv_lhs => rw [← List.take_append_drop i (ops.take j)]
  rw [after_append, List.take_take, Nat.min_eq_left hij]

/-- `main_v5` holds a branch's features. -/
theorem eq_v5 : fin V main_v5 = feat (fin V main_arg0) (fin V main_arg1) (fin V main_arg2) := by
  rw [stretch V 0 7 (by decide) main_v5 (by decide)]
  rw [← kept 0 main_arg0 (by decide) V]
  rw [← kept 0 main_arg1 (by decide) V]
  rw [← kept 0 main_arg2 (by decide) V]
  generalize upto ops V 0 = W
  after_reads_simp
  rfl

/-- `main_v11` holds a branch's logits. -/
theorem eq_v11 : fin V main_v11 = logit (fin V main_v5) (fin V main_arg3) (fin V main_arg4) := by
  rw [stretch V 7 14 (by decide) main_v11 (by decide)]
  rw [← kept 7 main_v5 (by decide) V]
  rw [← kept 7 main_arg3 (by decide) V]
  rw [← kept 7 main_arg4 (by decide) V]
  generalize upto ops V 7 = W
  after_reads_simp
  rfl

/-- `main_v22` holds a branch's probabilities. -/
theorem eq_v22 : fin V main_v22 = prob (fin V main_v11) := by
  rw [stretch V 14 28 (by decide) main_v22 (by decide)]
  rw [← kept 14 main_v11 (by decide) V]
  generalize upto ops V 14 = W
  after_reads_simp
  rfl

/-- `main_v28` holds a branch's features. -/
theorem eq_v28 : fin V main_v28 = feat (fin V main_arg0) (fin V main_arg5) (fin V main_arg6) := by
  rw [stretch V 28 35 (by decide) main_v28 (by decide)]
  rw [← kept 28 main_arg0 (by decide) V]
  rw [← kept 28 main_arg5 (by decide) V]
  rw [← kept 28 main_arg6 (by decide) V]
  generalize upto ops V 28 = W
  after_reads_simp
  rfl

/-- `main_v34` holds a branch's logits. -/
theorem eq_v34 : fin V main_v34 = logit (fin V main_v28) (fin V main_arg7) (fin V main_arg8) := by
  rw [stretch V 35 42 (by decide) main_v34 (by decide)]
  rw [← kept 35 main_v28 (by decide) V]
  rw [← kept 35 main_arg7 (by decide) V]
  rw [← kept 35 main_arg8 (by decide) V]
  generalize upto ops V 35 = W
  after_reads_simp
  rfl

/-- `main_v45` holds a branch's probabilities. -/
theorem eq_v45 : fin V main_v45 = prob (fin V main_v34) := by
  rw [stretch V 42 56 (by decide) main_v45 (by decide)]
  rw [← kept 42 main_v34 (by decide) V]
  generalize upto ops V 42 = W
  after_reads_simp
  rfl

/-- `main_v51` holds a branch's features. -/
theorem eq_v51 : fin V main_v51 = feat (fin V main_arg0) (fin V main_arg9) (fin V main_arg10) := by
  rw [stretch V 56 63 (by decide) main_v51 (by decide)]
  rw [← kept 56 main_arg0 (by decide) V]
  rw [← kept 56 main_arg9 (by decide) V]
  rw [← kept 56 main_arg10 (by decide) V]
  generalize upto ops V 56 = W
  after_reads_simp
  rfl

/-- `main_v57` holds a branch's logits. -/
theorem eq_v57 : fin V main_v57 = logit (fin V main_v51) (fin V main_arg11) (fin V main_arg12) := by
  rw [stretch V 63 70 (by decide) main_v57 (by decide)]
  rw [← kept 63 main_v51 (by decide) V]
  rw [← kept 63 main_arg11 (by decide) V]
  rw [← kept 63 main_arg12 (by decide) V]
  generalize upto ops V 63 = W
  after_reads_simp
  rfl

/-- `main_v68` holds a branch's probabilities. -/
theorem eq_v68 : fin V main_v68 = prob (fin V main_v57) := by
  rw [stretch V 70 84 (by decide) main_v68 (by decide)]
  rw [← kept 70 main_v57 (by decide) V]
  generalize upto ops V 70 = W
  after_reads_simp
  rfl

/-- `main_v72` holds the stacked features. -/
theorem eq_v72 : fin V main_v72 = stackF (fin V main_v5) (fin V main_v28) (fin V main_v51) := by
  rw [stretch V 84 88 (by decide) main_v72 (by decide)]
  rw [← kept 84 main_v5 (by decide) V]
  rw [← kept 84 main_v28 (by decide) V]
  rw [← kept 84 main_v51 (by decide) V]
  generalize upto ops V 84 = W
  after_reads_simp
  rfl

/-- `main_v76` holds the stacked probabilities. -/
theorem eq_v76 : fin V main_v76 = stackO (fin V main_v22) (fin V main_v45) (fin V main_v68) := by
  rw [stretch V 88 92 (by decide) main_v76 (by decide)]
  rw [← kept 88 main_v22 (by decide) V]
  rw [← kept 88 main_v45 (by decide) V]
  rw [← kept 88 main_v68 (by decide) V]
  generalize upto ops V 88 = W
  after_reads_simp
  rfl

/-- `main_v77` holds a branch's prediction. -/
theorem eq_v77 : fin V main_v77 = pred (fin V main_v22) := by
  rw [stretch V 92 97 (by decide) main_v77 (by decide)]
  rw [← kept 92 main_v22 (by decide) V]
  generalize upto ops V 92 = W
  after_reads_simp
  rfl

/-- `main_v78` holds a branch's prediction. -/
theorem eq_v78 : fin V main_v78 = pred (fin V main_v45) := by
  rw [stretch V 97 102 (by decide) main_v78 (by decide)]
  rw [← kept 97 main_v45 (by decide) V]
  generalize upto ops V 97 = W
  after_reads_simp
  rfl

/-- `main_v79` holds a branch's prediction. -/
theorem eq_v79 : fin V main_v79 = pred (fin V main_v68) := by
  rw [stretch V 102 107 (by decide) main_v79 (by decide)]
  rw [← kept 102 main_v68 (by decide) V]
  generalize upto ops V 102 = W
  after_reads_simp
  rfl

/-- `main_v84` holds the histogram. -/
theorem eq_v84 : fin V main_v84 = hist (fin V main_v77) (fin V main_v78) (fin V main_v79) := by
  rw [stretch V 107 127 (by decide) main_v84 (by decide)]
  rw [← kept 107 main_v77 (by decide) V]
  rw [← kept 107 main_v78 (by decide) V]
  rw [← kept 107 main_v79 (by decide) V]
  generalize upto ops V 107 = W
  after_reads_simp
  simp only [TRef.ofBuf_toBuf]
  rfl

/-- `main_v85` holds the class named most often. -/
theorem eq_v85 : fin V main_v85 = top (fin V main_v84) := by
  rw [stretch V 127 132 (by decide) main_v85 (by decide)]
  rw [← kept 127 main_v84 (by decide) V]
  generalize upto ops V 127 = W
  after_reads_simp
  rfl

/-- `main_v88` holds its votes. -/
theorem eq_v88 : fin V main_v88 = votesAt (fin V main_v84) (fin V main_v85) := by
  rw [stretch V 132 156 (by decide) main_v88 (by decide)]
  rw [← kept 132 main_v84 (by decide) V]
  rw [← kept 132 main_v85 (by decide) V]
  generalize upto ops V 132 = W
  after_reads_simp
  simp only [TRef.ofBuf_toBuf]
  simp only [TRef.ofBuf, TRef.toBuf, dropContentsCast]
  rfl

/-- `main_v91` holds the voted class. -/
theorem eq_v91 : fin V main_v91 = valueAt (fin V main_v88) (fin V main_v79) (fin V main_v85) := by
  rw [stretch V 156 160 (by decide) main_v91 (by decide)]
  rw [← kept 156 main_v88 (by decide) V]
  rw [← kept 156 main_v79 (by decide) V]
  rw [← kept 156 main_v85 (by decide) V]
  generalize upto ops V 156 = W
  after_reads_simp
  rfl

/-- `main_v95` is the third branch's share of the sum. -/
theorem eq_v95 : fin V main_v95 = onVote (fin V main_v79) (fin V main_v91) (fin V main_v68)
    (broadcastInDim S16384x1000 ![] bcast_S_S16384x1000 (constant S_ .f32 0x00000000#32)) := by
  rw [stretch V 160 166 (by decide) main_v95 (by decide)]
  rw [← kept 160 main_v79 (by decide) V]
  rw [← kept 160 main_v91 (by decide) V]
  rw [← kept 160 main_v68 (by decide) V]
  generalize upto ops V 160 = W
  after_reads_simp
  simp only [TRef.ofBuf_toBuf]
  simp only [TRef.ofBuf, TRef.toBuf, dropContentsCast]
  rfl

/-- `main_v99` adds the second branch's share. -/
theorem eq_v99 : fin V main_v99 = onVote (fin V main_v78) (fin V main_v91)
    (addf (fin V main_v45) (fin V main_v95)) (fin V main_v95) := by
  rw [stretch V 166 171 (by decide) main_v99 (by decide)]
  rw [← kept 166 main_v78 (by decide) V]
  rw [← kept 166 main_v91 (by decide) V]
  rw [← kept 166 main_v45 (by decide) V]
  rw [← kept 166 main_v95 (by decide) V]
  generalize upto ops V 166 = W
  after_reads_simp
  simp only [TRef.ofBuf_toBuf]
  simp only [TRef.ofBuf, TRef.toBuf, dropContentsCast]
  rfl

/-- `main_v103` adds the first branch's share. -/
theorem eq_v103 : fin V main_v103 = onVote (fin V main_v77) (fin V main_v91)
    (addf (fin V main_v22) (fin V main_v99)) (fin V main_v99) := by
  rw [stretch V 171 176 (by decide) main_v103 (by decide)]
  rw [← kept 171 main_v77 (by decide) V]
  rw [← kept 171 main_v91 (by decide) V]
  rw [← kept 171 main_v22 (by decide) V]
  rw [← kept 171 main_v99 (by decide) V]
  generalize upto ops V 171 = W
  after_reads_simp
  simp only [TRef.ofBuf_toBuf]
  simp only [TRef.ofBuf, TRef.toBuf, dropContentsCast]
  rfl

/-- `main_v107` divides the sum by the number of votes. -/
theorem eq_v107' : fin V main_v107 = Host.divf (F := Ideal) (s := S16384x1000) (φ := .f32) (fin V main_v103)
    (broadcastInDim S16384x1000 ![0, 1] bcast_S16384x1_S16384x1000_0_1
      (sitofp .f32 (broadcastInDim S16384x1 ![0] bcast_S16384_S16384x1_0 (fin V main_v88)))) := by
  rw [stretch V 176 180 (by decide) main_v107 (by decide)]
  rw [← kept 176 main_v103 (by decide) V]
  rw [← kept 176 main_v88 (by decide) V]
  generalize upto ops V 176 = W
  after_reads_simp

/-- `main_v107` holds the average of the voting branches. -/
theorem eq_v107 : fin V main_v107 = avgC (fin V main_v22) (fin V main_v45) (fin V main_v68)
    (fin V main_v77) (fin V main_v78) (fin V main_v79) (fin V main_v91) (fin V main_v88) := by
  rw [eq_v107', eq_v103, eq_v99, eq_v95]; rfl

/-- `main_v111` holds the mean of the branches. -/
theorem eq_v111 : fin V main_v111 = avgP (fin V main_v22) (fin V main_v45) (fin V main_v68) := by
  rw [stretch V 180 185 (by decide) main_v111 (by decide)]
  rw [← kept 180 main_v22 (by decide) V]
  rw [← kept 180 main_v45 (by decide) V]
  rw [← kept 180 main_v68 (by decide) V]
  generalize upto ops V 180 = W
  after_reads_simp
  rfl

end Cert.ReferenceIdeal.Val
end
-- ==== Proof.Hand.RefRun.lean ====
module

public import proofs.«01_k».proof.Defs
public import proofs.«01_k».proof.Proof.Gen.ReferenceIdeal
public import proofs.«01_k».proof.Proof.Hand.RefEqs
public import Idealize.ShloMosaic.Lib.Claim
public import Idealize.ShloMosaic.Lib.StableHlo.Run
public import Idealize.ShloMosaic.Lib.StableHlo.RunHlo
public import Idealize.ShloMosaic.Lib.Tactic

/-! What the reference's buffers hold after its run, as named whole-array functions of its arguments. -/

@[expose] public section

set_option maxRecDepth 65536

noncomputable section

open Idealize.ShloMosaic Idealize.ShloMosaic.TcCoe Idealize.SL.Sem Idealize.ShloMosaic.StableHlo

namespace Cert.ReferenceIdeal.Val

open Cert.ReferenceIdeal Facts₀ Facts

variable (m : (ℓ : Loc nD τ sig) → Buf (Elt Ideal) ℓ) (ρ : Dev nD → PrngReg)

/-- The contents of a buffer before the run. -/
abbrev at0 (c : Dev nD) (b : Ref sig .tc) : Buf (Elt Ideal) ((c.tc : Thread nD τ).loc b) := m ((c.tc : Thread nD τ).loc b)

/-- The branches' features in this run. -/
def F1 (c : Dev nD) : FVec Ideal S16384x128 .f32 := feat (at0 m c main_arg0) (at0 m c main_arg1) (at0 m c main_arg2)
/-- The second branch's features in this run. -/
def F2 (c : Dev nD) : FVec Ideal S16384x128 .f32 := feat (at0 m c main_arg0) (at0 m c main_arg5) (at0 m c main_arg6)
/-- The third branch's features in this run. -/
def F3 (c : Dev nD) : FVec Ideal S16384x128 .f32 := feat (at0 m c main_arg0) (at0 m c main_arg9) (at0 m c main_arg10)
/-- The first branch's probabilities in this run. -/
def O1 (c : Dev nD) : FVec Ideal S16384x1000 .f32 := prob (logit (F1 m c) (at0 m c main_arg3) (at0 m c main_arg4))
/-- The second branch's probabilities in this run. -/
def O2 (c : Dev nD) : FVec Ideal S16384x1000 .f32 := prob (logit (F2 m c) (at0 m c main_arg7) (at0 m c main_arg8))
/-- The third branch's probabilities in this run. -/
def O3 (c : Dev nD) : FVec Ideal S16384x1000 .f32 := prob (logit (F3 m c) (at0 m c main_arg11) (at0 m c main_arg12))
/-- The histogram of the predictions in this run. -/
def H (c : Dev nD) : IVec S16384x1000 32 := hist (pred (O1 m c)) (pred (O2 m c)) (pred (O3 m c))
/-- The voted class in this run. -/
def U (c : Dev nD) : IVec S16384 32 := value (H m c) (pred (O3 m c))

/-- After the reference's run every buffer holds what its operations leave there. -/
theorem run_fin : θ_run defs (onTc (τ := τ) (main (F := Ideal))) ⟨m, fun _ => 0, ρ⟩ fun r => ∀ (c : Dev nD) (b : Ref sig .tc),
    r.2.mem ((c.tc : Thread nD τ).loc b) = fin (launchContents m c) b :=
  run_hlo _ main line.2 (by decide) (by decide) (by simp [line])
    (by intro _ h; (repeat (cases h with | head => rfl | tail _ h => ?_)); exact nomatch h) m ρ

/-- A buffer no operation writes keeps its contents. -/
theorem fin_arg (c : Dev nD) (b : Ref sig .tc) (hb : b ∉ written) : fin (launchContents m c) b = at0 m c b := by
  rw [← kept 0 b hb (launchContents m c)]; rfl

/-- The features of the run. -/
theorem fin_feat (c : Dev nD) : fin (launchContents m c) main_v5 = F1 m c ∧ fin (launchContents m c) main_v28 = F2 m c
    ∧ fin (launchContents m c) main_v51 = F3 m c := by
  refine ⟨?_, ?_, ?_⟩
  · rw [eq_v5, fin_arg m c main_arg0 (by decide), fin_arg m c main_arg1 (by decide), fin_arg m c main_arg2 (by decide)]; rfl
  · rw [eq_v28, fin_arg m c main_arg0 (by decide), fin_arg m c main_arg5 (by decide), fin_arg m c main_arg6 (by decide)]; rfl
  · rw [eq_v51, fin_arg m c main_arg0 (by decide), fin_arg m c main_arg9 (by decide), fin_arg m c main_arg10 (by decide)]; rfl

/-- The probabilities of the run. -/
theorem fin_prob (c : Dev nD) : fin (launchContents m c) main_v22 = O1 m c ∧ fin (launchContents m c) main_v45 = O2 m c
    ∧ fin (launchContents m c) main_v68 = O3 m c := by
  obtain ⟨h1, h2, h3⟩ := fin_feat m c
  refine ⟨?_, ?_, ?_⟩
  · rw [eq_v22, eq_v11, h1, fin_arg m c main_arg3 (by decide), fin_arg m c main_arg4 (by decide)]; rfl
  · rw [eq_v45, eq_v34, h2, fin_arg m c main_arg7 (by decide), fin_arg m c main_arg8 (by decide)]; rfl
  · rw [eq_v68, eq_v57, h3, fin_arg m c main_arg11 (by decide), fin_arg m c main_arg12 (by decide)]; rfl

/-- The histogram of the run. -/
theorem fin_hist (c : Dev nD) : fin (launchContents m c) main_v84 = H m c := by
  obtain ⟨h1, h2, h3⟩ := fin_prob m c
  rw [eq_v84, eq_v77, eq_v78, eq_v79, h1, h2, h3]; rfl

/-- The votes for the class named most often, in the run. -/
theorem fin_votes (c : Dev nD) : fin (launchContents m c) main_v88 = votes (H m c) := by
  rw [eq_v88, eq_v85, fin_hist]; rfl

/-- The voted class of the run. -/
theorem fin_value (c : Dev nD) : fin (launchContents m c) main_v91 = U m c := by
  obtain ⟨h1, h2, h3⟩ := fin_prob m c
  rw [eq_v91, fin_votes, eq_v79, eq_v85, fin_hist, h3]; rfl

/-- After the reference's run its five results are these functions of its arguments. -/
theorem run : θ_run defs (onTc (τ := τ) (main (F := Ideal))) ⟨m, fun _ => 0, ρ⟩ fun r => ∀ c : Dev nD,
      r.2.mem ((c.tc : Thread nD τ).loc main_v72) = stackF (F1 m c) (F2 m c) (F3 m c)
      ∧ r.2.mem ((c.tc : Thread nD τ).loc main_v76) = stackO (O1 m c) (O2 m c) (O3 m c)
      ∧ r.2.mem ((c.tc : Thread nD τ).loc main_v91) = U m c
      ∧ r.2.mem ((c.tc : Thread nD τ).loc main_v107)
          = avgC (O1 m c) (O2 m c) (O3 m c) (pred (O1 m c)) (pred (O2 m c)) (pred (O3 m c)) (U m c) (votes (H m c))
      ∧ r.2.mem ((c.tc : Thread nD τ).loc main_v111) = avgP (O1 m c) (O2 m c) (O3 m c)
      ∧ r.2.mem ((c.tc : Thread nD τ).loc main_arg0) = at0 m c main_arg0
      ∧ r.2.mem ((c.tc : Thread nD τ).loc main_arg1) = at0 m c main_arg1
      ∧ r.2.mem ((c.tc : Thread nD τ).loc main_arg2) = at0 m c main_arg2
      ∧ r.2.mem ((c.tc : Thread nD τ).loc main_arg3) = at0 m c main_arg3
      ∧ r.2.mem ((c.tc : Thread nD τ).loc main_arg4) = at0 m c main_arg4
      ∧ r.2.mem ((c.tc : Thread nD τ).loc main_arg5) = at0 m c main_arg5
      ∧ r.2.mem ((c.tc : Thread nD τ).loc main_arg6) = at0 m c main_arg6
      ∧ r.2.mem ((c.tc : Thread nD τ).loc main_arg7) = at0 m c main_arg7
      ∧ r.2.mem ((c.tc : Thread nD τ).loc main_arg8) = at0 m c main_arg8
      ∧ r.2.mem ((c.tc : Thread nD τ).loc main_arg9) = at0 m c main_arg9
      ∧ r.2.mem ((c.tc : Thread nD τ).loc main_arg10) = at0 m c main_arg10
      ∧ r.2.mem ((c.tc : Thread nD τ).loc main_arg11) = at0 m c main_arg11
      ∧ r.2.mem ((c.tc : Thread nD τ).loc main_arg12) = at0 m c main_arg12 := by
  refine (run_fin m ρ).mono fun r hr c => ?_
  obtain ⟨h1, h2, h3⟩ := fin_feat m c
  obtain ⟨p1, p2, p3⟩ := fin_prob m c
  refine ⟨?_, ?_, ?_, ?_, ?_, ?_, ?_, ?_, ?_, ?_, ?_, ?_, ?_, ?_, ?_, ?_, ?_, ?_⟩
  · rw [hr, eq_v72, h1, h2, h3]
  · rw [hr, eq_v76, p1, p2, p3]
  · rw [hr, fin_value]
  · rw [hr, eq_v107, eq_v77, eq_v78, eq_v79, p1, p2, p3, fin_value, fin_votes]
  · rw [hr, eq_v111, p1, p2, p3]
  all_goals rw [hr]; exact fin_arg m c _ (by decide)

end Cert.ReferenceIdeal.Val
end
-- ==== Proof.Hand.RefVal.lean ====
module

public import proofs.«01_k».proof.Proof.Hand.RefAt
public import proofs.«01_k».proof.Proof.Hand.RefRun
public import proofs.«01_k».proof.Proof.Hand.Values

/-! The reference's five results over real arguments without biases. -/

@[expose] public section

noncomputable section

open Idealize.ShloMosaic Idealize.ShloMosaic.TcCoe

namespace Cert.ReferenceIdeal.Val

open Cert.ReferenceIdeal Facts₀ Facts

variable (m : (ℓ : Loc nD τ sig) → Buf (Elt Ideal) ℓ) (c : Dev nD)

/-- Every bias is zero. -/
structure NoBias : Prop where
  /-- The first branch's first bias. -/
  b2 : ∀ i, (at0 m c main_arg2 : FVec Ideal S128 .f32) i = (0 : EReal)
  /-- The first branch's second bias. -/
  b4 : ∀ i, (at0 m c main_arg4 : FVec Ideal S1000 .f32) i = (0 : EReal)
  /-- The second branch's first bias. -/
  b6 : ∀ i, (at0 m c main_arg6 : FVec Ideal S128 .f32) i = (0 : EReal)
  /-- The second branch's second bias. -/
  b8 : ∀ i, (at0 m c main_arg8 : FVec Ideal S1000 .f32) i = (0 : EReal)
  /-- The third branch's first bias. -/
  b10 : ∀ i, (at0 m c main_arg10 : FVec Ideal S128 .f32) i = (0 : EReal)
  /-- The third branch's second bias. -/
  b12 : ∀ i, (at0 m c main_arg12 : FVec Ideal S1000 .f32) i = (0 : EReal)

variable (X : Fin 16384 → Fin 256 → ℝ) (W : Fin 3 → Fin 256 → Fin 128 → ℝ) (U₀ : Fin 3 → Fin 128 → Fin 1000 → ℝ)
  (hr : Spec.Reads (at0 m c main_arg0) (at0 m c main_arg1) (at0 m c main_arg5) (at0 m c main_arg9) (at0 m c main_arg3)
    (at0 m c main_arg7) (at0 m c main_arg11) X W U₀) (hb : NoBias m c)

include hr hb

/-- Each branch's features. -/
theorem F_at (s : Fin 3) (r : Fin 16384) (h : Fin 128) :
    ((![F1 m c, F2 m c, F3 m c] s) (ix2 r h) : EReal) = (Spec.feat (X r) (W s) h : EReal) := by
  obtain rfl | rfl | rfl : s = 0 ∨ s = 1 ∨ s = 2 := by revert s; decide
  · exact feat_at _ _ _ r h (X r) (W 0) (hr.rows r) (hr.first 0) (hb.b2 _)
  · exact feat_at _ _ _ r h (X r) (W 1) (hr.rows r) (hr.first 1) (hb.b6 _)
  · exact feat_at _ _ _ r h (X r) (W 2) (hr.rows r) (hr.first 2) (hb.b10 _)

/-- Each branch's probabilities. -/
theorem O_at (s : Fin 3) (r : Fin 16384) (j : Fin 1000) :
    ((![O1 m c, O2 m c, O3 m c] s) (ix2 r j) : EReal) = (Spec.prb X W U₀ r s j : EReal) := by
  obtain rfl | rfl | rfl : s = 0 ∨ s = 1 ∨ s = 2 := by revert s; decide
  · exact prob_at _ r j _ fun i => logit_at _ _ _ r i _ _ (F_at m c X W U₀ hr hb 0 r) (hr.second 0) (hb.b4 _)
  · exact prob_at _ r j _ fun i => logit_at _ _ _ r i _ _ (F_at m c X W U₀ hr hb 1 r) (hr.second 1) (hb.b8 _)
  · exact prob_at _ r j _ fun i => logit_at _ _ _ r i _ _ (F_at m c X W U₀ hr hb 2 r) (hr.second 2) (hb.b12 _)

/-- The class predicted from a branch's probabilities. -/
theorem cls_at (p : FVec Ideal S16384x1000 .f32) (s : Fin 3) (r : Fin 16384)
    (hp : ∀ j : Fin 1000, p (ix2 r j) = (Spec.prb X W U₀ r s j : EReal)) :
    pred p (ix1 r) = BitVec.ofNat 32 (Spec.cls X W U₀ r s).val :=
  (pred_at p r _ hp).trans (congrArg (fun k : Fin (999 + 1) => BitVec.ofNat 32 k.val) (Row.top_soft _))

/-- The histogram of the three predictions. -/
theorem H_at (r : Fin 16384) (j : Fin 1000) :
    H m c (ix2 r j) = BitVec.ofNat 32 (Row.count (Spec.cls X W U₀ r 0) (Spec.cls X W U₀ r 1) (Spec.cls X W U₀ r 2) j) :=
  hist_at _ _ _ r j _ _ _ (cls_at m c X W U₀ hr hb _ 0 r (O_at m c X W U₀ hr hb 0 r))
    (cls_at m c X W U₀ hr hb _ 1 r (O_at m c X W U₀ hr hb 1 r)) (cls_at m c X W U₀ hr hb _ 2 r (O_at m c X W U₀ hr hb 2 r))

/-- The vote and the number of branches agreeing with it. -/
theorem U_at (r : Fin 16384) : U m c (ix1 r) = BitVec.ofNat 32 (Spec.voted X W U₀ r).val
    ∧ votes (H m c) (ix1 r) = BitVec.ofNat 32 (Row.count (Spec.cls X W U₀ r 0) (Spec.cls X W U₀ r 1) (Spec.cls X W U₀ r 2)
        (Spec.voted X W U₀ r)) :=
  value_at _ _ r _ _ _ (H_at m c X W U₀ hr hb r) (cls_at m c X W U₀ hr hb _ 2 r (O_at m c X W U₀ hr hb 2 r))

/-- The first result. -/
theorem res0_eq : stackF (F1 m c) (F2 m c) (F3 m c) = Spec.res0 X W := by
  funext i
  obtain ⟨r, s, h, rfl⟩ : ∃ (r : Fin 16384) (s : Fin 3) (h : Fin 128), i = ix3 r s h := ⟨i 0, i 1, i 2, eq_ix3 i⟩
  exact (stackF_at _ _ _ r s h).trans (F_at m c X W U₀ hr hb s r h)

/-- The second result. -/
theorem res1_eq : stackO (O1 m c) (O2 m c) (O3 m c) = Spec.res1 X W U₀ := by
  funext i
  obtain ⟨r, s, j, rfl⟩ : ∃ (r : Fin 16384) (s : Fin 3) (j : Fin 1000), i = ix3 r s j := ⟨i 0, i 1, i 2, eq_ix3 i⟩
  exact (stackO_at _ _ _ r s j).trans (O_at m c X W U₀ hr hb s r j)

/-- The third result. -/
theorem res2_eq : U m c = Spec.res2 X W U₀ := by
  funext i
  obtain ⟨r, rfl⟩ : ∃ (r : Fin 16384), i = ix1 r := ⟨i 0, eq_ix1 i⟩
  exact (U_at m c X W U₀ hr hb r).1

/-- The fourth result. -/
theorem res3_eq : avgC (O1 m c) (O2 m c) (O3 m c) (pred (O1 m c)) (pred (O2 m c)) (pred (O3 m c)) (U m c) (votes (H m c))
    = Spec.res3 X W U₀ := by
  funext i
  obtain ⟨r, j, rfl⟩ : ∃ (r : Fin 16384) (j : Fin 1000), i = ix2 r j := ⟨i 0, i 1, eq_ix2 i⟩
  exact avgC_at _ _ _ _ _ _ _ _ r j _ _ _ _ _ _ (O_at m c X W U₀ hr hb 0 r j) (O_at m c X W U₀ hr hb 1 r j) (O_at m c X W U₀ hr hb 2 r j)
    (cls_at m c X W U₀ hr hb _ 0 r (O_at m c X W U₀ hr hb 0 r)) (cls_at m c X W U₀ hr hb _ 1 r (O_at m c X W U₀ hr hb 1 r))
    (cls_at m c X W U₀ hr hb _ 2 r (O_at m c X W U₀ hr hb 2 r)) (U_at m c X W U₀ hr hb r).1 (U_at m c X W U₀ hr hb r).2

/-- The fifth result. -/
theorem res4_eq : avgP (O1 m c) (O2 m c) (O3 m c) = Spec.res4 X W U₀ := by
  funext i
  obtain ⟨r, j, rfl⟩ : ∃ (r : Fin 16384) (j : Fin 1000), i = ix2 r j := ⟨i 0, i 1, eq_ix2 i⟩
  exact avgP_at _ _ _ r j _ _ _ (O_at m c X W U₀ hr hb 0 r j) (O_at m c X W U₀ hr hb 1 r j) (O_at m c X W U₀ hr hb 2 r j)

end Cert.ReferenceIdeal.Val
end
-- ==== Proof.Hand.PreAt.lean ====
module

public import proofs.«01_k».proof.Pre_finite_without_bias
public import Idealize.ShloMosaic.Lib.KernelVsHost
public import Idealize.ShloMosaic.Lib.ReduceAll
public import Idealize.ShloMosaic.Lib.Tactic

/-! What the precondition says of the arguments: every row and weight is a real, every bias is zero. -/

@[expose] public section

noncomputable section

open Idealize.ShloMosaic

namespace Cert.Pre_finite_without_bias.Val

open Cert.Pre_finite_without_bias Facts

/-- A shape of rank zero has one index. -/
instance : Subsingleton S_.Idx := ⟨fun a b => funext fun i => i.elim0⟩

/-- Two bits whose conjunction is one are both one. -/
theorem both (p q : IVec S_ 1) (h : andi p q = fun _ => 1#1) : (p = fun _ => 1#1) ∧ q = fun _ => 1#1 :=
  ⟨funext fun i => (IntOp.andi_eq_one.1 (congrFun h i)).1, funext fun i => (IntOp.andi_eq_one.1 (congrFun h i)).2⟩

/-- A value below the infinity in magnitude is a real. -/
theorem real_of_lt (x : Ideal .f32) (h : FloatOps.cmpf .olt (FloatOps.hostAbsf x) (FloatOps.ofBits (F := Ideal) .f32 0x7F800000#32) = 1#1) :
    ∃ a : ℝ, x = (a : EReal) := by
  rw [← Ideal.xori_weird_eq_hostAbsf_olt_inf] at h
  have h' : IntOp.xori (BitVec.ofBool (decide ((x : EReal) = ⊤ ∨ (x : EReal) = ⊥))) 1#1 = 1#1 := h
  by_cases hx : (x : EReal) = ⊤ ∨ (x : EReal) = ⊥
  · rw [decide_eq_true hx] at h'
    exact absurd h' (by decide)
  · rw [not_or] at hx
    exact ⟨EReal.toReal x, (EReal.coe_toReal hx.1 hx.2).symm⟩

/-- An array all of whose entries are below the infinity in magnitude holds reals. -/
theorem reals {S : Shape} {axes : List (Fin S.rank)} (x : FVec Ideal S .f32) (hb : S_.BroadcastsInDim S (![] : Fin 0 → Fin S.rank))
    (hd : S.ReducesTo axes S_) (hu : 0 < S_.numel)
    (h : Host.reduce IntOp.andi (cmpf .olt (Host.absf x) (broadcastInDim S ![] hb (constant S_ .f32 0x7F800000#32))) (constantI S_ 1 1#1) hd hu
      = fun _ => 1#1) (i : S.Idx) : ∃ a : ℝ, x i = (a : EReal) :=
  real_of_lt _ (Host.reduce_andi_all _ _ hd hu (fun k => k.elim0) (congrFun h _) i)

/-- An array all of whose entries equal zero is zero. -/
theorem zeros {S : Shape} {axes : List (Fin S.rank)} (x : FVec Ideal S .f32) (hb : S_.BroadcastsInDim S (![] : Fin 0 → Fin S.rank))
    (hd : S.ReducesTo axes S_) (hu : 0 < S_.numel)
    (h : Host.reduce IntOp.andi (cmpf .oeq x (broadcastInDim S ![] hb (constant S_ .f32 0x00000000#32))) (constantI S_ 1 1#1) hd hu
      = fun _ => 1#1) (i : S.Idx) : x i = (0 : EReal) := by
  have e : BitVec.ofBool (decide ((x i : EReal) = Ideal.ofBits .f32 0x00000000#32)) = 1#1 :=
    Host.reduce_andi_all _ _ hd hu (fun k => k.elim0) (congrFun h _) i
  by_cases hx : (x i : EReal) = Ideal.ofBits .f32 0x00000000#32
  · exact hx.trans (by simp [Ideal.ofBits, Ideal.ieee])
  · rw [decide_eq_false hx] at e
    exact absurd e (by decide)

variable [Cert.Pre_finite_without_bias.Facts]

/-- What the precondition says of the thirteen arguments. -/
theorem holds (a0 : FVec Ideal S16384x256 .f32) (a1 : FVec Ideal S256x128 .f32) (a2 : FVec Ideal S128 .f32) (a3 : FVec Ideal S128x1000 .f32)
    (a4 : FVec Ideal S1000 .f32) (a5 : FVec Ideal S256x128 .f32) (a6 : FVec Ideal S128 .f32) (a7 : FVec Ideal S128x1000 .f32)
    (a8 : FVec Ideal S1000 .f32) (a9 : FVec Ideal S256x128 .f32) (a10 : FVec Ideal S128 .f32) (a11 : FVec Ideal S128x1000 .f32)
    (a12 : FVec Ideal S1000 .f32) (h : fn (F := Ideal) a0 a1 a2 a3 a4 a5 a6 a7 a8 a9 a10 a11 a12 = fun _ => 1#1) :
    ((∀ i, ∃ a : ℝ, a0 i = (a : EReal)) ∧ (∀ i, ∃ a : ℝ, a1 i = (a : EReal)) ∧ (∀ i, ∃ a : ℝ, a3 i = (a : EReal))
      ∧ (∀ i, ∃ a : ℝ, a5 i = (a : EReal)) ∧ (∀ i, ∃ a : ℝ, a7 i = (a : EReal)) ∧ (∀ i, ∃ a : ℝ, a9 i = (a : EReal))
      ∧ ∀ i, ∃ a : ℝ, a11 i = (a : EReal))
    ∧ (∀ i, a2 i = (0 : EReal)) ∧ (∀ i, a4 i = (0 : EReal)) ∧ (∀ i, a6 i = (0 : EReal)) ∧ (∀ i, a8 i = (0 : EReal))
      ∧ (∀ i, a10 i = (0 : EReal)) ∧ ∀ i, a12 i = (0 : EReal) := by
  unfold fn fn_part1 fn_part2 fn_part3 at h
  dsimp only at h
  obtain ⟨h, h12⟩ := both _ _ h
  obtain ⟨h, h10⟩ := both _ _ h
  obtain ⟨h, h8⟩ := both _ _ h
  obtain ⟨h, h6⟩ := both _ _ h
  obtain ⟨h, h4⟩ := both _ _ h
  obtain ⟨h, h2⟩ := both _ _ h
  obtain ⟨h, h11⟩ := both _ _ h
  obtain ⟨h, h9⟩ := both _ _ h
  obtain ⟨h, h7⟩ := both _ _ h
  obtain ⟨h, h5⟩ := both _ _ h
  obtain ⟨h, h3⟩ := both _ _ h
  obtain ⟨h0, h1⟩ := both _ _ h
  exact ⟨⟨reals _ _ _ _ h0, reals _ _ _ _ h1, reals _ _ _ _ h3, reals _ _ _ _ h5, reals _ _ _ _ h7, reals _ _ _ _ h9, reals _ _ _ _ h11⟩,
    zeros _ _ _ _ h2, zeros _ _ _ _ h4, zeros _ _ _ _ h6, zeros _ _ _ _ h8, zeros _ _ _ _ h10, zeros _ _ _ _ h12⟩

end Cert.Pre_finite_without_bias.Val
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_without_bias
public import proofs.«01_k».proof.Proof.Hand.KerRun
public import proofs.«01_k».proof.Proof.Hand.RefVal
public import proofs.«01_k».proof.Proof.Hand.PreAt
public import Idealize.ShloMosaic.Lib.Quiescent

/-! The claims about the kernel, the ideal kernel and the reference, and the proof of their conjunction. -/

@[expose] public section

noncomputable section

namespace Cert.Proof

open Idealize.ShloMosaic Idealize.ShloMosaic.TcCoe Idealize.SL.Sem

/-- The reference runs, keeps its arguments and leaves every counter at zero. -/
theorem reference_runs : Cert.quiescent_ReferenceIdeal := fun m g _ =>
  θ_run_mono (Cert.ReferenceIdeal.Val.run m g) fun r h => ⟨fun c => (h c).2.2.2.2.2, sem_eq_zero_of_no_sems rfl r.2⟩

/-- The two renamed constants of the kernel are the numbers they are named for. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "third" .f32 0x3EAAAAAB#32 ((1 / 3 : ℝ) : EReal) rfl⟩

/-- The kernel and the reference leave the same five results. -/
theorem algebraic : Cert.algebraic_KernelIdeal_ReferenceIdeal_pre_finite_without_bias := by
  intro m g m' g' hpre hagree
  have hh := fun c => Cert.Pre_finite_without_bias.Val.holds _ _ _ _ _ _ _ _ _ _ _ _ _ (hpre c)
  have hex := fun c => Cert.Spec.exists_reads _ _ _ _ _ _ _ (hh c).1.1 (hh c).1.2.1 (hh c).1.2.2.2.1 (hh c).1.2.2.2.2.2.1
    (hh c).1.2.2.1 (hh c).1.2.2.2.2.1 (hh c).1.2.2.2.2.2.2
  choose X W U hr using hex
  have hr' : ∀ c, Cert.Spec.Reads _ _ _ _ _ _ _ (X c) (W c) (U c) := hr
  refine ⟨fun c => Cert.Spec.res0 (X c) (W c), fun c => Cert.Spec.res1 (X c) (W c) (U c), fun c => Cert.Spec.res2 (X c) (W c) (U c),
    fun c => Cert.Spec.res3 (X c) (W c) (U c), fun c => Cert.Spec.res4 (X c) (W c) (U c), ?_, ?_⟩
  · exact θ_run_mono (θ_run_and (Cert.KernelIdeal.Val.run m g X W U hr) (Cert.KernelIdeal.Gen.frame m g)) fun r h c =>
      ⟨(h.1 c).1, (h.1 c).2.1, (h.1 c).2.2.1, (h.1 c).2.2.2.1, (h.1 c).2.2.2.2, h.2.1 c⟩
  · refine θ_run_mono (Cert.ReferenceIdeal.Val.run m' g') fun r h c => ?_
    obtain ⟨e0, e1, e2, e3, e4, e5, e6, e7, e8, e9, e10, e11, e12⟩ := hagree c
    have hb : Cert.ReferenceIdeal.Val.NoBias m' c := by
      obtain ⟨b2, b4, b6, b8, b10, b12⟩ := (hh c).2
      exact ⟨fun i => (congrFun e2 i).trans (b2 i), fun i => (congrFun e4 i).trans (b4 i), fun i => (congrFun e6 i).trans (b6 i),
        fun i => (congrFun e8 i).trans (b8 i), fun i => (congrFun e10 i).trans (b10 i), fun i => (congrFun e12 i).trans (b12 i)⟩
    have hr1 : Cert.Spec.Reads (Cert.ReferenceIdeal.Val.at0 m' c Cert.ReferenceIdeal.main_arg0) (Cert.ReferenceIdeal.Val.at0 m' c Cert.ReferenceIdeal.main_arg1)
        (Cert.ReferenceIdeal.Val.at0 m' c Cert.ReferenceIdeal.main_arg5) (Cert.ReferenceIdeal.Val.at0 m' c Cert.ReferenceIdeal.main_arg9)
        (Cert.ReferenceIdeal.Val.at0 m' c Cert.ReferenceIdeal.main_arg3) (Cert.ReferenceIdeal.Val.at0 m' c Cert.ReferenceIdeal.main_arg7)
        (Cert.ReferenceIdeal.Val.at0 m' c Cert.ReferenceIdeal.main_arg11) (X c) (W c) (U c) := by
      unfold Cert.ReferenceIdeal.Val.at0
      rw [e0, e1, e3, e5, e7, e9, e11]
      exact hr c
    obtain ⟨h0, h1, h2, h3, h4, hk⟩ := h c
    exact ⟨h0.trans (Cert.ReferenceIdeal.Val.res0_eq m' c _ _ _ hr1 hb), h1.trans (Cert.ReferenceIdeal.Val.res1_eq m' c _ _ _ hr1 hb),
      h2.trans (Cert.ReferenceIdeal.Val.res2_eq m' c _ _ _ hr1 hb), h3.trans (Cert.ReferenceIdeal.Val.res3_eq m' c _ _ _ hr1 hb),
      h4.trans (Cert.ReferenceIdeal.Val.res4_eq m' c _ _ _ hr1 hb), hk⟩

/-- Every claim. -/
theorem claim : Cert.Claim :=
  ⟨Cert.Kernel.Gen.facts, Cert.KernelIdeal.Gen.facts, Cert.ReferenceIdeal.Gen.facts, Cert.Pre_finite_without_bias.Gen.facts,
    fun m g _ => Cert.Kernel.Gen.frame m g, fun m g _ => Cert.KernelIdeal.Gen.frame m g, fun m g _ => Cert.KernelIdeal.Gen.frame m g,
    reference_runs, fun m g _ => reference_runs m g trivial, preserves, algebraic⟩

end Cert.Proof

end
